-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_nonneg [hPre_scale_nonneg : Cert.Pre_scale_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_nonneg [hPre_scale_nonneg : Cert.Pre_scale_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scale_nonneg [hKernelIdeal : Cert.KernelIdeal.Facts] [hPre_scale_nonneg : Cert.Pre_scale_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scale_nonneg [hReferenceIdeal : Cert.ReferenceIdeal.Facts] [hPre_scale_nonneg : Cert.Pre_scale_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scale_nonneg [hKernelIdeal : Cert.KernelIdeal.Facts] [hReferenceIdeal : Cert.ReferenceIdeal.Facts] [hPre_scale_nonneg : Cert.Pre_scale_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scale_nonneg : Cert.Pre_scale_nonneg.Facts),
    quiescent_Kernel (hKernel := hKernel)
    ∧ quiescent_KernelIdeal (hKernelIdeal := hKernelIdeal)
    ∧ quiescent_KernelIdeal_pre_scale_nonneg (hKernelIdeal := hKernelIdeal) (hPre_scale_nonneg := hPre_scale_nonneg)
    ∧ quiescent_ReferenceIdeal (hReferenceIdeal := hReferenceIdeal)
    ∧ quiescent_ReferenceIdeal_pre_scale_nonneg (hReferenceIdeal := hReferenceIdeal) (hPre_scale_nonneg := hPre_scale_nonneg)
    ∧ preserves_Kernel_KernelIdeal
    ∧ algebraic_KernelIdeal_ReferenceIdeal_pre_scale_nonneg (hKernelIdeal := hKernelIdeal) (hReferenceIdeal := hReferenceIdeal) (hPre_scale_nonneg := hPre_scale_nonneg)
-- ==== Pre_scale_nonneg.lean ====
abbrev S4096x4 : Shape := ⟨2, ![4096, 4]⟩
abbrev S4 : Shape := ⟨1, ![4]⟩
abbrev S4x16 : Shape := ⟨2, ![4, 16]⟩
abbrev S16x16 : Shape := ⟨2, ![16, 16]⟩
abbrev S16x4 : Shape := ⟨2, ![16, 4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4096x4 .f32) (main_arg1 : FVec F S4 .f32) (main_arg2 : FVec F S4x16 .f32) (main_arg3 : FVec F S16x16 .f32) (main_arg4 : FVec F S16x4 .f32) : IVec S4 1 :=
  let main_cst : FVec F S_ .f32 := constant S_ .f32 0x00000000#32
  let main_v0 : FVec F S4 .f32 := broadcastInDim S4 ![] bcast_S_S4 main_cst
  let main_v1 : IVec S4 1 := cmpf .oge main_arg1 main_v0
  main_v1
-- ==== Kernel.lean ====
abbrev S4096x4 : Shape := ⟨2, ![4096, 4]⟩
abbrev S4 : Shape := ⟨1, ![4]⟩
abbrev S4x16 : Shape := ⟨2, ![4, 16]⟩
abbrev S16x16 : Shape := ⟨2, ![16, 16]⟩
abbrev S16x4 : Shape := ⟨2, ![16, 4]⟩
abbrev S_ : Shape := ⟨0, ![]⟩
abbrev S4x8 : Shape := ⟨2, ![4, 8]⟩
abbrev S32 : Shape := ⟨1, ![32]⟩
abbrev S32x1 : Shape := ⟨2, ![32, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x512 : Shape := ⟨2, ![8, 512]⟩
abbrev S1x8x1x512 : Shape := ⟨4, ![1, 8, 1, 512]⟩
abbrev S4x8x1x512 : Shape := ⟨4, ![4, 8, 1, 512]⟩
abbrev S32x512 : Shape := ⟨2, ![32, 512]⟩
abbrev S8x8x64x4 : Shape := ⟨4, ![8, 8, 64, 4]⟩
abbrev S4x8x8x64 : Shape := ⟨4, ![4, 8, 8, 64]⟩
abbrev S8x8 : Shape := ⟨2, ![8, 8]⟩
abbrev S16x1x4x1 : Shape := ⟨4, ![16, 1, 4, 1]⟩
abbrev S1x8x1x8 : Shape := ⟨4, ![1, 8, 1, 8]⟩
abbrev S16x8x4x8 : Shape := ⟨4, ![16, 8, 4, 8]⟩
abbrev S128x32 : Shape := ⟨2, ![128, 32]⟩
abbrev S16x1x16x1 : Shape := ⟨4, ![16, 1, 16, 1]⟩
abbrev S16x8x16x8 : Shape := ⟨4, ![16, 8, 16, 8]⟩
abbrev S128x128 : Shape := ⟨2, ![128, 128]⟩
abbrev S4x1x16x1 : Shape := ⟨4, ![4, 1, 16, 1]⟩
abbrev S4x8x16x8 : Shape := ⟨4, ![4, 8, 16, 8]⟩
abbrev S32x128 : Shape := ⟨2, ![32, 128]⟩
abbrev S1x512 : Shape := ⟨2, ![1, 512]⟩
abbrev S8x1 : Shape := ⟨2, ![8, 1]⟩
abbrev S8 : Shape := ⟨1, ![8]⟩
abbrev S128x512 : Shape := ⟨2, ![128, 512]⟩

abbrev nBuf : Space → Nat
  | .hbm => 90
  | .vmem => 7
  | .smem => 0
  | _ => 0

abbrev bufTy : (tb : Table) → Fin (tcTables nBuf tb) → BufTy
  | .hbm, ⟨0, _⟩ => ⟨S4096x4, .f32⟩
  | .hbm, ⟨1, _⟩ => ⟨S4, .f32⟩
  | .hbm, ⟨2, _⟩ => ⟨S4x16, .f32⟩
  | .hbm, ⟨3, _⟩ => ⟨S16x16, .f32⟩
  | .hbm, ⟨4, _⟩ => ⟨S16x4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4x8, .f32⟩
  | .hbm, ⟨12, _⟩ => ⟨S32, .f32⟩
  | .hbm, ⟨13, _⟩ => ⟨S32x1, .f32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .i32⟩
  | .hbm, ⟨23, _⟩ => ⟨S64, .i32⟩
  | .hbm, ⟨24, _⟩ => ⟨S64, .i1⟩
  | .hbm, ⟨25, _⟩ => ⟨S64, .f32⟩
  | .hbm, ⟨26, _⟩ => ⟨S64, .f32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S1x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S8x512, .f32⟩
  | .hbm, ⟨47, _⟩ => ⟨S1x8x1x512, .f32⟩
  | .hbm, ⟨48, _⟩ => ⟨S4x8x1x512, .f32⟩
  | .hbm, ⟨49, _⟩ => ⟨S32x512, .f32⟩
  | .hbm, ⟨50, _⟩ => ⟨S_, .f32⟩
  | .hbm, ⟨51, _⟩ => ⟨S32x512, .f32⟩
  | .hbm, ⟨52, _⟩ => ⟨S32x512, .f32⟩
  | .hbm, ⟨53, _⟩ => ⟨S32x512, .f32⟩
  | .hbm, ⟨54, _⟩ => ⟨S32x512, .f32⟩
  | .hbm, ⟨55, _⟩ => ⟨S8x8x64x4, .f32⟩
  | .hbm, ⟨56, _⟩ => ⟨S4x8x8x64, .f32⟩
  | .hbm, ⟨57, _⟩ => ⟨S32x512, .f32⟩
  | .hbm, ⟨58, _⟩ => ⟨S8x8, .i32⟩
  | .hbm, ⟨59, _⟩ => ⟨S8x8, .i32⟩
  | .hbm, ⟨60, _⟩ => ⟨S_, .i32⟩
  | .hbm, ⟨61, _⟩ => ⟨S8x8, .i32⟩
  | .hbm, ⟨62, _⟩ => ⟨S8x8, .i32⟩
  | .hbm, ⟨63, _⟩ => ⟨S8x8, .i1⟩
  | .hbm, ⟨64, _⟩ => ⟨S8x8, .f32⟩
  | .hbm, ⟨65, _⟩ => ⟨S16x4, .f32⟩
  | .hbm, ⟨66, _⟩ => ⟨S16x1x4x1, .f32⟩
  | .hbm, ⟨67, _⟩ => ⟨S1x8x1x8, .f32⟩
  | .hbm, ⟨68, _⟩ => ⟨S16x8x4x8, .f32⟩
  | .hbm, ⟨69, _⟩ => ⟨S16x8x4x8, .f32⟩
  | .hbm, ⟨70, _⟩ => ⟨S16x8x4x8, .f32⟩
  | .hbm, ⟨71, _⟩ => ⟨S128x32, .f32⟩
  | .hbm, ⟨72, _⟩ => ⟨S16x16, .f32⟩
  | .hbm, ⟨73, _⟩ => ⟨S16x1x16x1, .f32⟩
  | .hbm, ⟨74, _⟩ => ⟨S1x8x1x8, .f32⟩
  | .hbm, ⟨75, _⟩ => ⟨S16x8x16x8, .f32⟩
  | .hbm, ⟨76, _⟩ => ⟨S16x8x16x8, .f32⟩
  | .hbm, ⟨77, _⟩ => ⟨S16x8x16x8, .f32⟩
  | .hbm, ⟨78, _⟩ => ⟨S128x128, .f32⟩
  | .hbm, ⟨79, _⟩ => ⟨S4x16, .f32⟩
  | .hbm, ⟨80, _⟩ => ⟨S4x1x16x1, .f32⟩
  | .hbm, ⟨81, _⟩ => ⟨S1x8x1x8, .f32⟩
  | .hbm, ⟨82, _⟩ => ⟨S4x8x16x8, .f32⟩
  | .hbm, ⟨83, _⟩ => ⟨S4x8x16x8, .f32⟩
  | .hbm, ⟨84, _⟩ => ⟨S4x8x16x8, .f32⟩
  | .hbm, ⟨85, _⟩ => ⟨S32x128, .f32⟩
  | .hbm, ⟨86, _⟩ => ⟨S32x512, .f32⟩
  | .hbm, ⟨87, _⟩ => ⟨S4x8x8x64, .f32⟩
  | .hbm, ⟨88, _⟩ => ⟨S8x8x64x4, .f32⟩
  | .hbm, ⟨89, _⟩ => ⟨S4096x4, .f32⟩
  | .local _ .vmem, ⟨0, _⟩ => ⟨S32x512, .f32⟩
  | .local _ .vmem, ⟨1, _⟩ => ⟨S32x1, .f32⟩
  | .local _ .vmem, ⟨2, _⟩ => ⟨S32x512, .f32⟩
  | .local _ .vmem, ⟨3, _⟩ => ⟨S128x32, .f32⟩
  | .local _ .vmem, ⟨4, _⟩ => ⟨S128x128, .f32⟩
  | .local _ .vmem, ⟨5, _⟩ => ⟨S32x128, .f32⟩
  | .local _ .vmem, ⟨6, _⟩ => ⟨S32x512, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_c_2 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_c_3 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_cst_4 : Ref sig .tc := ⟨.hbm, 32, rfl⟩
abbrev main_call0_v21 : Ref sig .tc := ⟨.hbm, 33, rfl⟩
abbrev main_call0_v22 : Ref sig .tc := ⟨.hbm, 34, rfl⟩
abbrev main_call0_c_5 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_cst_6 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_v40 : Ref sig .tc := ⟨.hbm, 54, rfl⟩
abbrev main_call0_v41 : Ref sig .tc := ⟨.hbm, 55, rfl⟩
abbrev main_call0_v42 : Ref sig .tc := ⟨.hbm, 56, rfl⟩
abbrev main_call0_v43 : Ref sig .tc := ⟨.hbm, 57, rfl⟩
abbrev main_call0_v44 : Ref sig .tc := ⟨.hbm, 58, rfl⟩
abbrev main_call0_v45 : Ref sig .tc := ⟨.hbm, 59, rfl⟩
abbrev main_call0_c_7 : Ref sig .tc := ⟨.hbm, 60, rfl⟩
abbrev main_call0_v46 : Ref sig .tc := ⟨.hbm, 61, rfl⟩
abbrev main_call0_v47 : Ref sig .tc := ⟨.hbm, 62, rfl⟩
abbrev main_call0_v48 : Ref sig .tc := ⟨.hbm, 63, rfl⟩
abbrev main_call0_v49 : Ref sig .tc := ⟨.hbm, 64, rfl⟩
abbrev main_call0_v50 : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_call0_v2 : Ref sig .tc := ⟨.hbm, 68, rfl⟩
abbrev main_call0_call0_v3 : Ref sig .tc := ⟨.hbm, 69, rfl⟩
abbrev main_call0_call0_v4 : Ref sig .tc := ⟨.hbm, 70, rfl⟩
abbrev main_call0_v51 : Ref sig .tc := ⟨.hbm, 71, rfl⟩
abbrev main_call0_v52 : Ref sig .tc := ⟨.hbm, 72, rfl⟩
abbrev main_call0_call1_v0 : Ref sig .tc := ⟨.hbm, 73, rfl⟩
abbrev main_call0_call1_v1 : Ref sig .tc := ⟨.hbm, 74, rfl⟩
abbrev main_call0_call1_v2 : Ref sig .tc := ⟨.hbm, 75, rfl⟩
abbrev main_call0_call1_v3 : Ref sig .tc := ⟨.hbm, 76, rfl⟩
abbrev main_call0_call1_v4 : Ref sig .tc := ⟨.hbm, 77, rfl⟩
abbrev main_call0_v53 : Ref sig .tc := ⟨.hbm, 78, rfl⟩
abbrev main_call0_v54 : Ref sig .tc := ⟨.hbm, 79, rfl⟩
abbrev main_call0_call2_v0 : Ref sig .tc := ⟨.hbm, 80, rfl⟩
abbrev main_call0_call2_v1 : Ref sig .tc := ⟨.hbm, 81, rfl⟩
abbrev main_call0_call2_v2 : Ref sig .tc := ⟨.hbm, 82, rfl⟩
abbrev main_call0_call2_v3 : Ref sig .tc := ⟨.hbm, 83, rfl⟩
abbrev main_call0_call2_v4 : Ref sig .tc := ⟨.hbm, 84, rfl⟩
abbrev main_call0_v55 : Ref sig .tc := ⟨.hbm, 85, rfl⟩
abbrev main_call0_v56 : Ref sig .tc := ⟨.hbm, 86, rfl⟩
abbrev main_call0_v57 : Ref sig .tc := ⟨.hbm, 87, rfl⟩
abbrev main_call0_v58 : Ref sig .tc := ⟨.hbm, 88, rfl⟩
abbrev main_v0 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_23 : BitVec 32 := 0#32
  let c512_i32 : BitVec 32 := 512#32
  let v72 : BitVec 32 := Scalar.addi c0_i32_23 c512_i32
  let c1_i32_24 : BitVec 32 := 1#32
  ⟨c0_i32_23, v72, c1_i32_24⟩
abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4 : Shape := ⟨2, ![4096, 4]⟩
abbrev S4 : Shape := ⟨1, ![4]⟩
abbrev S4x16 : Shape := ⟨2, ![4, 16]⟩
abbrev S16x16 : Shape := ⟨2, ![16, 16]⟩
abbrev S16x4 : Shape := ⟨2, ![16, 4]⟩
abbrev S_ : Shape := ⟨0, ![]⟩
abbrev S1x4 : Shape := ⟨2, ![1, 4]⟩
abbrev S64x64x4 : Shape := ⟨3, ![64, 64, 4]⟩
abbrev S64x63x4 : Shape := ⟨3, ![64, 63, 4]⟩
abbrev S63x64x4 : Shape := ⟨3, ![63, 64, 4]⟩
abbrev S1 : Shape := ⟨1, ![1]⟩
abbrev S4096x16 : Shape := ⟨2, ![4096, 16]⟩

abbrev nBuf : Space → Nat
  | .hbm => 1180
  | .vmem => 0
  | .smem => 0
  | _ => 0

abbrev hbmTy0_0 (i : Nat) : BufTy := match i % 128 with
  | 0 => ⟨S4096x4, .f32⟩
  | 1 => ⟨S4, .f32⟩
  | 2 => ⟨S4x16, .f32⟩
  | 3 => ⟨S16x16, .f32⟩
  | 4 => ⟨S16x4, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S_, .i32⟩
  | 12 => ⟨S4, .f32⟩
  | 13 => ⟨S4x16, .f32⟩
  | 14 => ⟨S16x16, .f32⟩
  | 15 => ⟨S16x4, .f32⟩
  | 16 => ⟨S_, .i32⟩
  | 17 => ⟨S4096x4, .f32⟩
  | 18 => ⟨S_, .i32⟩
  | 19 => ⟨S_, .i1⟩
  | 20 => ⟨S1x4, .f32⟩
  | 21 => ⟨S4096x4, .f32⟩
  | 22 => ⟨S4096x4, .f32⟩
  | 23 => ⟨S_, .f32⟩
  | 24 => ⟨S4096x4, .f32⟩
  | 25 => ⟨S4096x4, .f32⟩
  | 26 => ⟨S_, .f32⟩
  | 27 => ⟨S4, .f32⟩
  | 28 => ⟨S64x64x4, .f32⟩
  | 29 => ⟨S64x63x4, .f32⟩
  | 30 => ⟨S64x63x4, .f32⟩
  | 31 => ⟨S64x63x4, .f32⟩
  | 32 => ⟨S63x64x4, .f32⟩
  | 33 => ⟨S63x64x4, .f32⟩
  | 34 => ⟨S63x64x4, .f32⟩
  | 35 => ⟨S_, .f32⟩
  | 36 => ⟨S64x64x4, .f32⟩
  | 37 => ⟨S64x63x4, .f32⟩
  | 38 => ⟨S_, .i32⟩
  | 39 => ⟨S1, .i32⟩
  | 40 => ⟨S64x64x4, .f32⟩
  | 41 => ⟨S_, .i32⟩
  | 42 => ⟨S1, .i32⟩
  | 43 => ⟨S64x64x4, .f32⟩
  | 44 => ⟨S63x64x4, .f32⟩
  | 45 => ⟨S_, .i32⟩
  | 46 => ⟨S1, .i32⟩
  | 47 => ⟨S64x64x4, .f32⟩
  | 48 => ⟨S_, .i32⟩
  | 49 => ⟨S1, .i32⟩
  | 50 => ⟨S64x64x4, .f32⟩
  | 51 => ⟨S_, .f32⟩
  | 52 => ⟨S64x64x4, .f32⟩
  | 53 => ⟨S64x64x4, .f32⟩
  | 54 => ⟨S4096x4, .f32⟩
  | 55 => ⟨S1x4, .f32⟩
  | 56 => ⟨S4096x4, .f32⟩
  | 57 => ⟨S4096x4, .f32⟩
  | 58 => ⟨S4096x4, .f32⟩
  | 59 => ⟨S4096x4, .f32⟩
  | 60 => ⟨S_, .f32⟩
  | 61 => ⟨S4, .f32⟩
  | 62 => ⟨S_, .f32⟩
  | 63 => ⟨S4, .f32⟩
  | 64 => ⟨S4, .f32⟩
  | 65 => ⟨S4, .f32⟩
  | 66 => ⟨S1x4, .f32⟩
  | 67 => ⟨S4096x4, .f32⟩
  | 68 => ⟨S4096x4, .f32⟩
  | 69 => ⟨S4096x4, .f32⟩
  | 70 => ⟨S1x4, .f32⟩
  | 71 => ⟨S4096x4, .f32⟩
  | 72 => ⟨S4096x4, .f32⟩
  | 73 => ⟨S4096x4, .f32⟩
  | 74 => ⟨S4096x4, .f32⟩
  | 75 => ⟨S_, .f32⟩
  | 76 => ⟨S4, .f32⟩
  | 77 => ⟨S_, .f32⟩
  | 78 => ⟨S4, .f32⟩
  | 79 => ⟨S4, .f32⟩
  | 80 => ⟨S4, .f32⟩
  | 81 => ⟨S1x4, .f32⟩
  | 82 => ⟨S4096x4, .f32⟩
  | 83 => ⟨S4096x4, .f32⟩
  | 84 => ⟨S4096x4, .f32⟩
  | 85 => ⟨S64x64x4, .f32⟩
  | 86 => ⟨S64x63x4, .f32⟩
  | 87 => ⟨S64x63x4, .f32⟩
  | 88 => ⟨S64x63x4, .f32⟩
  | 89 => ⟨S63x64x4, .f32⟩
  | 90 => ⟨S63x64x4, .f32⟩
  | 91 => ⟨S63x64x4, .f32⟩
  | 92 => ⟨S_, .f32⟩
  | 93 => ⟨S64x64x4, .f32⟩
  | 94 => ⟨S64x63x4, .f32⟩
  | 95 => ⟨S_, .i32⟩
  | 96 => ⟨S1, .i32⟩
  | 97 => ⟨S64x64x4, .f32⟩
  | 98 => ⟨S_, .i32⟩
  | 99 => ⟨S1, .i32⟩
  | 100 => ⟨S64x64x4, .f32⟩
  | 101 => ⟨S63x64x4, .f32⟩
  | 102 => ⟨S_, .i32⟩
  | 103 => ⟨S1, .i32⟩
  | 104 => ⟨S64x64x4, .f32⟩
  | 105 => ⟨S_, .i32⟩
  | 106 => ⟨S1, .i32⟩
  | 107 => ⟨S64x64x4, .f32⟩
  | 108 => ⟨S_, .f32⟩
  | 109 => ⟨S64x64x4, .f32⟩
  | 110 => ⟨S64x64x4, .f32⟩
  | 111 => ⟨S4096x4, .f32⟩
  | 112 => ⟨S1x4, .f32⟩
  | 113 => ⟨S4096x4, .f32⟩
  | 114 => ⟨S4096x4, .f32⟩
  | 115 => ⟨S4096x4, .f32⟩
  | 116 => ⟨S4096x4, .f32⟩
  | 117 => ⟨S_, .f32⟩
  | 118 => ⟨S4, .f32⟩
  | 119 => ⟨S_, .f32⟩
  | 120 => ⟨S4, .f32⟩
  | 121 => ⟨S4, .f32⟩
  | 122 => ⟨S4, .f32⟩
  | 123 => ⟨S1x4, .f32⟩
  | 124 => ⟨S4096x4, .f32⟩
  | 125 => ⟨S4096x4, .f32⟩
  | 126 => ⟨S4096x4, .f32⟩
  | 127 => ⟨S1x4, .f32⟩
  | _ => ⟨S4096x4, .f32⟩

abbrev hbmTy0_1 (i : Nat) : BufTy := match i % 128 with
  | 0 => ⟨S4096x4, .f32⟩
  | 1 => ⟨S4096x4, .f32⟩
  | 2 => ⟨S4096x4, .f32⟩
  | 3 => ⟨S4096x4, .f32⟩
  | 4 => ⟨S_, .f32⟩
  | 5 => ⟨S4, .f32⟩
  | 6 => ⟨S_, .f32⟩
  | 7 => ⟨S4, .f32⟩
  | 8 => ⟨S4, .f32⟩
  | 9 => ⟨S4, .f32⟩
  | 10 => ⟨S1x4, .f32⟩
  | 11 => ⟨S4096x4, .f32⟩
  | 12 => ⟨S4096x4, .f32⟩
  | 13 => ⟨S4096x4, .f32⟩
  | 14 => ⟨S64x64x4, .f32⟩
  | 15 => ⟨S64x63x4, .f32⟩
  | 16 => ⟨S64x63x4, .f32⟩
  | 17 => ⟨S64x63x4, .f32⟩
  | 18 => ⟨S63x64x4, .f32⟩
  | 19 => ⟨S63x64x4, .f32⟩
  | 20 => ⟨S63x64x4, .f32⟩
  | 21 => ⟨S_, .f32⟩
  | 22 => ⟨S64x64x4, .f32⟩
  | 23 => ⟨S64x63x4, .f32⟩
  | 24 => ⟨S_, .i32⟩
  | 25 => ⟨S1, .i32⟩
  | 26 => ⟨S64x64x4, .f32⟩
  | 27 => ⟨S_, .i32⟩
  | 28 => ⟨S1, .i32⟩
  | 29 => ⟨S64x64x4, .f32⟩
  | 30 => ⟨S63x64x4, .f32⟩
  | 31 => ⟨S_, .i32⟩
  | 32 => ⟨S1, .i32⟩
  | 33 => ⟨S64x64x4, .f32⟩
  | 34 => ⟨S_, .i32⟩
  | 35 => ⟨S1, .i32⟩
  | 36 => ⟨S64x64x4, .f32⟩
  | 37 => ⟨S_, .f32⟩
  | 38 => ⟨S64x64x4, .f32⟩
  | 39 => ⟨S64x64x4, .f32⟩
  | 40 => ⟨S4096x4, .f32⟩
  | 41 => ⟨S1x4, .f32⟩
  | 42 => ⟨S4096x4, .f32⟩
  | 43 => ⟨S4096x4, .f32⟩
  | 44 => ⟨S4096x4, .f32⟩
  | 45 => ⟨S4096x4, .f32⟩
  | 46 => ⟨S_, .f32⟩
  | 47 => ⟨S4, .f32⟩
  | 48 => ⟨S_, .f32⟩
  | 49 => ⟨S4, .f32⟩
  | 50 => ⟨S4, .f32⟩
  | 51 => ⟨S4, .f32⟩
  | 52 => ⟨S1x4, .f32⟩
  | 53 => ⟨S4096x4, .f32⟩
  | 54 => ⟨S4096x4, .f32⟩
  | 55 => ⟨S4096x4, .f32⟩
  | 56 => ⟨S1x4, .f32⟩
  | 57 => ⟨S4096x4, .f32⟩
  | 58 => ⟨S4096x4, .f32⟩
  | 59 => ⟨S4096x4, .f32⟩
  | 60 => ⟨S4096x4, .f32⟩
  | 61 => ⟨S_, .f32⟩
  | 62 => ⟨S4, .f32⟩
  | 63 => ⟨S_, .f32⟩
  | 64 => ⟨S4, .f32⟩
  | 65 => ⟨S4, .f32⟩
  | 66 => ⟨S4, .f32⟩
  | 67 => ⟨S1x4, .f32⟩
  | 68 => ⟨S4096x4, .f32⟩
  | 69 => ⟨S4096x4, .f32⟩
  | 70 => ⟨S4096x4, .f32⟩
  | 71 => ⟨S64x64x4, .f32⟩
  | 72 => ⟨S64x63x4, .f32⟩
  | 73 => ⟨S64x63x4, .f32⟩
  | 74 => ⟨S64x63x4, .f32⟩
  | 75 => ⟨S63x64x4, .f32⟩
  | 76 => ⟨S63x64x4, .f32⟩
  | 77 => ⟨S63x64x4, .f32⟩
  | 78 => ⟨S_, .f32⟩
  | 79 => ⟨S64x64x4, .f32⟩
  | 80 => ⟨S64x63x4, .f32⟩
  | 81 => ⟨S_, .i32⟩
  | 82 => ⟨S1, .i32⟩
  | 83 => ⟨S64x64x4, .f32⟩
  | 84 => ⟨S_, .i32⟩
  | 85 => ⟨S1, .i32⟩
  | 86 => ⟨S64x64x4, .f32⟩
  | 87 => ⟨S63x64x4, .f32⟩
  | 88 => ⟨S_, .i32⟩
  | 89 => ⟨S1, .i32⟩
  | 90 => ⟨S64x64x4, .f32⟩
  | 91 => ⟨S_, .i32⟩
  | 92 => ⟨S1, .i32⟩
  | 93 => ⟨S64x64x4, .f32⟩
  | 94 => ⟨S_, .f32⟩
  | 95 => ⟨S64x64x4, .f32⟩
  | 96 => ⟨S64x64x4, .f32⟩
  | 97 => ⟨S4096x4, .f32⟩
  | 98 => ⟨S1x4, .f32⟩
  | 99 => ⟨S4096x4, .f32⟩
  | 100 => ⟨S4096x4, .f32⟩
  | 101 => ⟨S4096x4, .f32⟩
  | 102 => ⟨S4096x4, .f32⟩
  | 103 => ⟨S_, .f32⟩
  | 104 => ⟨S4, .f32⟩
  | 105 => ⟨S_, .f32⟩
  | 106 => ⟨S4, .f32⟩
  | 107 => ⟨S4, .f32⟩
  | 108 => ⟨S4, .f32⟩
  | 109 => ⟨S1x4, .f32⟩
  | 110 => ⟨S4096x4, .f32⟩
  | 111 => ⟨S4096x4, .f32⟩
  | 112 => ⟨S4096x4, .f32⟩
  | 113 => ⟨S1x4, .f32⟩
  | 114 => ⟨S4096x4, .f32⟩
  | 115 => ⟨S4096x4, .f32⟩
  | 116 => ⟨S4096x4, .f32⟩
  | 117 => ⟨S4096x4, .f32⟩
  | 118 => ⟨S_, .f32⟩
  | 119 => ⟨S4, .f32⟩
  | 120 => ⟨S_, .f32⟩
  | 121 => ⟨S4, .f32⟩
  | 122 => ⟨S4, .f32⟩
  | 123 => ⟨S4, .f32⟩
  | 124 => ⟨S1x4, .f32⟩
  | 125 => ⟨S4096x4, .f32⟩
  | 126 => ⟨S4096x4, .f32⟩
  | 127 => ⟨S4096x4, .f32⟩
  | _ => ⟨S4096x4, .f32⟩

abbrev hbmTy0_2 (i : Nat) : BufTy := match i % 128 with
  | 0 => ⟨S64x64x4, .f32⟩
  | 1 => ⟨S64x63x4, .f32⟩
  | 2 => ⟨S64x63x4, .f32⟩
  | 3 => ⟨S64x63x4, .f32⟩
  | 4 => ⟨S63x64x4, .f32⟩
  | 5 => ⟨S63x64x4, .f32⟩
  | 6 => ⟨S63x64x4, .f32⟩
  | 7 => ⟨S_, .f32⟩
  | 8 => ⟨S64x64x4, .f32⟩
  | 9 => ⟨S64x63x4, .f32⟩
  | 10 => ⟨S_, .i32⟩
  | 11 => ⟨S1, .i32⟩
  | 12 => ⟨S64x64x4, .f32⟩
  | 13 => ⟨S_, .i32⟩
  | 14 => ⟨S1, .i32⟩
  | 15 => ⟨S64x64x4, .f32⟩
  | 16 => ⟨S63x64x4, .f32⟩
  | 17 => ⟨S_, .i32⟩
  | 18 => ⟨S1, .i32⟩
  | 19 => ⟨S64x64x4, .f32⟩
  | 20 => ⟨S_, .i32⟩
  | 21 => ⟨S1, .i32⟩
  | 22 => ⟨S64x64x4, .f32⟩
  | 23 => ⟨S_, .f32⟩
  | 24 => ⟨S64x64x4, .f32⟩
  | 25 => ⟨S64x64x4, .f32⟩
  | 26 => ⟨S4096x4, .f32⟩
  | 27 => ⟨S1x4, .f32⟩
  | 28 => ⟨S4096x4, .f32⟩
  | 29 => ⟨S4096x4, .f32⟩
  | 30 => ⟨S4096x4, .f32⟩
  | 31 => ⟨S4096x4, .f32⟩
  | 32 => ⟨S_, .f32⟩
  | 33 => ⟨S4, .f32⟩
  | 34 => ⟨S_, .f32⟩
  | 35 => ⟨S4, .f32⟩
  | 36 => ⟨S4, .f32⟩
  | 37 => ⟨S4, .f32⟩
  | 38 => ⟨S1x4, .f32⟩
  | 39 => ⟨S4096x4, .f32⟩
  | 40 => ⟨S4096x4, .f32⟩
  | 41 => ⟨S4096x4, .f32⟩
  | 42 => ⟨S1x4, .f32⟩
  | 43 => ⟨S4096x4, .f32⟩
  | 44 => ⟨S4096x4, .f32⟩
  | 45 => ⟨S4096x4, .f32⟩
  | 46 => ⟨S4096x4, .f32⟩
  | 47 => ⟨S_, .f32⟩
  | 48 => ⟨S4, .f32⟩
  | 49 => ⟨S_, .f32⟩
  | 50 => ⟨S4, .f32⟩
  | 51 => ⟨S4, .f32⟩
  | 52 => ⟨S4, .f32⟩
  | 53 => ⟨S1x4, .f32⟩
  | 54 => ⟨S4096x4, .f32⟩
  | 55 => ⟨S4096x4, .f32⟩
  | 56 => ⟨S4096x4, .f32⟩
  | 57 => ⟨S64x64x4, .f32⟩
  | 58 => ⟨S64x63x4, .f32⟩
  | 59 => ⟨S64x63x4, .f32⟩
  | 60 => ⟨S64x63x4, .f32⟩
  | 61 => ⟨S63x64x4, .f32⟩
  | 62 => ⟨S63x64x4, .f32⟩
  | 63 => ⟨S63x64x4, .f32⟩
  | 64 => ⟨S_, .f32⟩
  | 65 => ⟨S64x64x4, .f32⟩
  | 66 => ⟨S64x63x4, .f32⟩
  | 67 => ⟨S_, .i32⟩
  | 68 => ⟨S1, .i32⟩
  | 69 => ⟨S64x64x4, .f32⟩
  | 70 => ⟨S_, .i32⟩
  | 71 => ⟨S1, .i32⟩
  | 72 => ⟨S64x64x4, .f32⟩
  | 73 => ⟨S63x64x4, .f32⟩
  | 74 => ⟨S_, .i32⟩
  | 75 => ⟨S1, .i32⟩
  | 76 => ⟨S64x64x4, .f32⟩
  | 77 => ⟨S_, .i32⟩
  | 78 => ⟨S1, .i32⟩
  | 79 => ⟨S64x64x4, .f32⟩
  | 80 => ⟨S_, .f32⟩
  | 81 => ⟨S64x64x4, .f32⟩
  | 82 => ⟨S64x64x4, .f32⟩
  | 83 => ⟨S4096x4, .f32⟩
  | 84 => ⟨S1x4, .f32⟩
  | 85 => ⟨S4096x4, .f32⟩
  | 86 => ⟨S4096x4, .f32⟩
  | 87 => ⟨S4096x4, .f32⟩
  | 88 => ⟨S4096x4, .f32⟩
  | 89 => ⟨S_, .f32⟩
  | 90 => ⟨S4, .f32⟩
  | 91 => ⟨S_, .f32⟩
  | 92 => ⟨S4, .f32⟩
  | 93 => ⟨S4, .f32⟩
  | 94 => ⟨S4, .f32⟩
  | 95 => ⟨S1x4, .f32⟩
  | 96 => ⟨S4096x4, .f32⟩
  | 97 => ⟨S4096x4, .f32⟩
  | 98 => ⟨S4096x4, .f32⟩
  | 99 => ⟨S1x4, .f32⟩
  | 100 => ⟨S4096x4, .f32⟩
  | 101 => ⟨S4096x4, .f32⟩
  | 102 => ⟨S4096x4, .f32⟩
  | 103 => ⟨S4096x4, .f32⟩
  | 104 => ⟨S_, .f32⟩
  | 105 => ⟨S4, .f32⟩
  | 106 => ⟨S_, .f32⟩
  | 107 => ⟨S4, .f32⟩
  | 108 => ⟨S4, .f32⟩
  | 109 => ⟨S4, .f32⟩
  | 110 => ⟨S1x4, .f32⟩
  | 111 => ⟨S4096x4, .f32⟩
  | 112 => ⟨S4096x4, .f32⟩
  | 113 => ⟨S4096x4, .f32⟩
  | 114 => ⟨S64x64x4, .f32⟩
  | 115 => ⟨S64x63x4, .f32⟩
  | 116 => ⟨S64x63x4, .f32⟩
  | 117 => ⟨S64x63x4, .f32⟩
  | 118 => ⟨S63x64x4, .f32⟩
  | 119 => ⟨S63x64x4, .f32⟩
  | 120 => ⟨S63x64x4, .f32⟩
  | 121 => ⟨S_, .f32⟩
  | 122 => ⟨S64x64x4, .f32⟩
  | 123 => ⟨S64x63x4, .f32⟩
  | 124 => ⟨S_, .i32⟩
  | 125 => ⟨S1, .i32⟩
  | 126 => ⟨S64x64x4, .f32⟩
  | 127 => ⟨S_, .i32⟩
  | _ => ⟨S4096x4, .f32⟩

abbrev hbmTy0_3 (i : Nat) : BufTy := match i % 128 with
  | 0 => ⟨S1, .i32⟩
  | 1 => ⟨S64x64x4, .f32⟩
  | 2 => ⟨S63x64x4, .f32⟩
  | 3 => ⟨S_, .i32⟩
  | 4 => ⟨S1, .i32⟩
  | 5 => ⟨S64x64x4, .f32⟩
  | 6 => ⟨S_, .i32⟩
  | 7 => ⟨S1, .i32⟩
  | 8 => ⟨S64x64x4, .f32⟩
  | 9 => ⟨S_, .f32⟩
  | 10 => ⟨S64x64x4, .f32⟩
  | 11 => ⟨S64x64x4, .f32⟩
  | 12 => ⟨S4096x4, .f32⟩
  | 13 => ⟨S1x4, .f32⟩
  | 14 => ⟨S4096x4, .f32⟩
  | 15 => ⟨S4096x4, .f32⟩
  | 16 => ⟨S4096x4, .f32⟩
  | 17 => ⟨S4096x4, .f32⟩
  | 18 => ⟨S_, .f32⟩
  | 19 => ⟨S4, .f32⟩
  | 20 => ⟨S_, .f32⟩
  | 21 => ⟨S4, .f32⟩
  | 22 => ⟨S4, .f32⟩
  | 23 => ⟨S4, .f32⟩
  | 24 => ⟨S1x4, .f32⟩
  | 25 => ⟨S4096x4, .f32⟩
  | 26 => ⟨S4096x4, .f32⟩
  | 27 => ⟨S4096x4, .f32⟩
  | 28 => ⟨S1x4, .f32⟩
  | 29 => ⟨S4096x4, .f32⟩
  | 30 => ⟨S4096x4, .f32⟩
  | 31 => ⟨S4096x4, .f32⟩
  | 32 => ⟨S4096x4, .f32⟩
  | 33 => ⟨S_, .f32⟩
  | 34 => ⟨S4, .f32⟩
  | 35 => ⟨S_, .f32⟩
  | 36 => ⟨S4, .f32⟩
  | 37 => ⟨S4, .f32⟩
  | 38 => ⟨S4, .f32⟩
  | 39 => ⟨S1x4, .f32⟩
  | 40 => ⟨S4096x4, .f32⟩
  | 41 => ⟨S4096x4, .f32⟩
  | 42 => ⟨S4096x4, .f32⟩
  | 43 => ⟨S64x64x4, .f32⟩
  | 44 => ⟨S64x63x4, .f32⟩
  | 45 => ⟨S64x63x4, .f32⟩
  | 46 => ⟨S64x63x4, .f32⟩
  | 47 => ⟨S63x64x4, .f32⟩
  | 48 => ⟨S63x64x4, .f32⟩
  | 49 => ⟨S63x64x4, .f32⟩
  | 50 => ⟨S_, .f32⟩
  | 51 => ⟨S64x64x4, .f32⟩
  | 52 => ⟨S64x63x4, .f32⟩
  | 53 => ⟨S_, .i32⟩
  | 54 => ⟨S1, .i32⟩
  | 55 => ⟨S64x64x4, .f32⟩
  | 56 => ⟨S_, .i32⟩
  | 57 => ⟨S1, .i32⟩
  | 58 => ⟨S64x64x4, .f32⟩
  | 59 => ⟨S63x64x4, .f32⟩
  | 60 => ⟨S_, .i32⟩
  | 61 => ⟨S1, .i32⟩
  | 62 => ⟨S64x64x4, .f32⟩
  | 63 => ⟨S_, .i32⟩
  | 64 => ⟨S1, .i32⟩
  | 65 => ⟨S64x64x4, .f32⟩
  | 66 => ⟨S_, .f32⟩
  | 67 => ⟨S64x64x4, .f32⟩
  | 68 => ⟨S64x64x4, .f32⟩
  | 69 => ⟨S4096x4, .f32⟩
  | 70 => ⟨S1x4, .f32⟩
  | 71 => ⟨S4096x4, .f32⟩
  | 72 => ⟨S4096x4, .f32⟩
  | 73 => ⟨S4096x4, .f32⟩
  | 74 => ⟨S4096x4, .f32⟩
  | 75 => ⟨S_, .f32⟩
  | 76 => ⟨S4, .f32⟩
  | 77 => ⟨S_, .f32⟩
  | 78 => ⟨S4, .f32⟩
  | 79 => ⟨S4, .f32⟩
  | 80 => ⟨S4, .f32⟩
  | 81 => ⟨S1x4, .f32⟩
  | 82 => ⟨S4096x4, .f32⟩
  | 83 => ⟨S4096x4, .f32⟩
  | 84 => ⟨S4096x4, .f32⟩
  | 85 => ⟨S1x4, .f32⟩
  | 86 => ⟨S4096x4, .f32⟩
  | 87 => ⟨S4096x4, .f32⟩
  | 88 => ⟨S4096x4, .f32⟩
  | 89 => ⟨S4096x4, .f32⟩
  | 90 => ⟨S_, .f32⟩
  | 91 => ⟨S4, .f32⟩
  | 92 => ⟨S_, .f32⟩
  | 93 => ⟨S4, .f32⟩
  | 94 => ⟨S4, .f32⟩
  | 95 => ⟨S4, .f32⟩
  | 96 => ⟨S1x4, .f32⟩
  | 97 => ⟨S4096x4, .f32⟩
  | 98 => ⟨S4096x4, .f32⟩
  | 99 => ⟨S4096x4, .f32⟩
  | 100 => ⟨S64x64x4, .f32⟩
  | 101 => ⟨S64x63x4, .f32⟩
  | 102 => ⟨S64x63x4, .f32⟩
  | 103 => ⟨S64x63x4, .f32⟩
  | 104 => ⟨S63x64x4, .f32⟩
  | 105 => ⟨S63x64x4, .f32⟩
  | 106 => ⟨S63x64x4, .f32⟩
  | 107 => ⟨S_, .f32⟩
  | 108 => ⟨S64x64x4, .f32⟩
  | 109 => ⟨S64x63x4, .f32⟩
  | 110 => ⟨S_, .i32⟩
  | 111 => ⟨S1, .i32⟩
  | 112 => ⟨S64x64x4, .f32⟩
  | 113 => ⟨S_, .i32⟩
  | 114 => ⟨S1, .i32⟩
  | 115 => ⟨S64x64x4, .f32⟩
  | 116 => ⟨S63x64x4, .f32⟩
  | 117 => ⟨S_, .i32⟩
  | 118 => ⟨S1, .i32⟩
  | 119 => ⟨S64x64x4, .f32⟩
  | 120 => ⟨S_, .i32⟩
  | 121 => ⟨S1, .i32⟩
  | 122 => ⟨S64x64x4, .f32⟩
  | 123 => ⟨S_, .f32⟩
  | 124 => ⟨S64x64x4, .f32⟩
  | 125 => ⟨S64x64x4, .f32⟩
  | 126 => ⟨S4096x4, .f32⟩
  | 127 => ⟨S1x4, .f32⟩
  | _ => ⟨S4096x4, .f32⟩

abbrev hbmTy0_4 (i : Nat) : BufTy := match i % 128 with
  | 0 => ⟨S4096x4, .f32⟩
  | 1 => ⟨S4096x4, .f32⟩
  | 2 => ⟨S4096x4, .f32⟩
  | 3 => ⟨S4096x4, .f32⟩
  | 4 => ⟨S_, .f32⟩
  | 5 => ⟨S4, .f32⟩
  | 6 => ⟨S_, .f32⟩
  | 7 => ⟨S4, .f32⟩
  | 8 => ⟨S4, .f32⟩
  | 9 => ⟨S4, .f32⟩
  | 10 => ⟨S1x4, .f32⟩
  | 11 => ⟨S4096x4, .f32⟩
  | 12 => ⟨S4096x4, .f32⟩
  | 13 => ⟨S4096x4, .f32⟩
  | 14 => ⟨S1x4, .f32⟩
  | 15 => ⟨S4096x4, .f32⟩
  | 16 => ⟨S4096x4, .f32⟩
  | 17 => ⟨S4096x4, .f32⟩
  | 18 => ⟨S4096x4, .f32⟩
  | 19 => ⟨S_, .f32⟩
  | 20 => ⟨S4, .f32⟩
  | 21 => ⟨S_, .f32⟩
  | 22 => ⟨S4, .f32⟩
  | 23 => ⟨S4, .f32⟩
  | 24 => ⟨S4, .f32⟩
  | 25 => ⟨S1x4, .f32⟩
  | 26 => ⟨S4096x4, .f32⟩
  | 27 => ⟨S4096x4, .f32⟩
  | 28 => ⟨S4096x4, .f32⟩
  | 29 => ⟨S64x64x4, .f32⟩
  | 30 => ⟨S64x63x4, .f32⟩
  | 31 => ⟨S64x63x4, .f32⟩
  | 32 => ⟨S64x63x4, .f32⟩
  | 33 => ⟨S63x64x4, .f32⟩
  | 34 => ⟨S63x64x4, .f32⟩
  | 35 => ⟨S63x64x4, .f32⟩
  | 36 => ⟨S_, .f32⟩
  | 37 => ⟨S64x64x4, .f32⟩
  | 38 => ⟨S64x63x4, .f32⟩
  | 39 => ⟨S_, .i32⟩
  | 40 => ⟨S1, .i32⟩
  | 41 => ⟨S64x64x4, .f32⟩
  | 42 => ⟨S_, .i32⟩
  | 43 => ⟨S1, .i32⟩
  | 44 => ⟨S64x64x4, .f32⟩
  | 45 => ⟨S63x64x4, .f32⟩
  | 46 => ⟨S_, .i32⟩
  | 47 => ⟨S1, .i32⟩
  | 48 => ⟨S64x64x4, .f32⟩
  | 49 => ⟨S_, .i32⟩
  | 50 => ⟨S1, .i32⟩
  | 51 => ⟨S64x64x4, .f32⟩
  | 52 => ⟨S_, .f32⟩
  | 53 => ⟨S64x64x4, .f32⟩
  | 54 => ⟨S64x64x4, .f32⟩
  | 55 => ⟨S4096x4, .f32⟩
  | 56 => ⟨S1x4, .f32⟩
  | 57 => ⟨S4096x4, .f32⟩
  | 58 => ⟨S4096x4, .f32⟩
  | 59 => ⟨S4096x4, .f32⟩
  | 60 => ⟨S4096x4, .f32⟩
  | 61 => ⟨S_, .f32⟩
  | 62 => ⟨S4, .f32⟩
  | 63 => ⟨S_, .f32⟩
  | 64 => ⟨S4, .f32⟩
  | 65 => ⟨S4, .f32⟩
  | 66 => ⟨S4, .f32⟩
  | 67 => ⟨S1x4, .f32⟩
  | 68 => ⟨S4096x4, .f32⟩
  | 69 => ⟨S4096x4, .f32⟩
  | 70 => ⟨S4096x4, .f32⟩
  | 71 => ⟨S1x4, .f32⟩
  | 72 => ⟨S4096x4, .f32⟩
  | 73 => ⟨S4096x4, .f32⟩
  | 74 => ⟨S4096x4, .f32⟩
  | 75 => ⟨S4096x4, .f32⟩
  | 76 => ⟨S_, .f32⟩
  | 77 => ⟨S4, .f32⟩
  | 78 => ⟨S_, .f32⟩
  | 79 => ⟨S4, .f32⟩
  | 80 => ⟨S4, .f32⟩
  | 81 => ⟨S4, .f32⟩
  | 82 => ⟨S1x4, .f32⟩
  | 83 => ⟨S4096x4, .f32⟩
  | 84 => ⟨S4096x4, .f32⟩
  | 85 => ⟨S4096x4, .f32⟩
  | 86 => ⟨S64x64x4, .f32⟩
  | 87 => ⟨S64x63x4, .f32⟩
  | 88 => ⟨S64x63x4, .f32⟩
  | 89 => ⟨S64x63x4, .f32⟩
  | 90 => ⟨S63x64x4, .f32⟩
  | 91 => ⟨S63x64x4, .f32⟩
  | 92 => ⟨S63x64x4, .f32⟩
  | 93 => ⟨S_, .f32⟩
  | 94 => ⟨S64x64x4, .f32⟩
  | 95 => ⟨S64x63x4, .f32⟩
  | 96 => ⟨S_, .i32⟩
  | 97 => ⟨S1, .i32⟩
  | 98 => ⟨S64x64x4, .f32⟩
  | 99 => ⟨S_, .i32⟩
  | 100 => ⟨S1, .i32⟩
  | 101 => ⟨S64x64x4, .f32⟩
  | 102 => ⟨S63x64x4, .f32⟩
  | 103 => ⟨S_, .i32⟩
  | 104 => ⟨S1, .i32⟩
  | 105 => ⟨S64x64x4, .f32⟩
  | 106 => ⟨S_, .i32⟩
  | 107 => ⟨S1, .i32⟩
  | 108 => ⟨S64x64x4, .f32⟩
  | 109 => ⟨S_, .f32⟩
  | 110 => ⟨S64x64x4, .f32⟩
  | 111 => ⟨S64x64x4, .f32⟩
  | 112 => ⟨S4096x4, .f32⟩
  | 113 => ⟨S1x4, .f32⟩
  | 114 => ⟨S4096x4, .f32⟩
  | 115 => ⟨S4096x4, .f32⟩
  | 116 => ⟨S4096x4, .f32⟩
  | 117 => ⟨S4096x4, .f32⟩
  | 118 => ⟨S_, .f32⟩
  | 119 => ⟨S4, .f32⟩
  | 120 => ⟨S_, .f32⟩
  | 121 => ⟨S4, .f32⟩
  | 122 => ⟨S4, .f32⟩
  | 123 => ⟨S4, .f32⟩
  | 124 => ⟨S1x4, .f32⟩
  | 125 => ⟨S4096x4, .f32⟩
  | 126 => ⟨S4096x4, .f32⟩
  | 127 => ⟨S4096x4, .f32⟩
  | _ => ⟨S4096x4, .f32⟩

abbrev hbmTy0_5 (i : Nat) : BufTy := match i % 128 with
  | 0 => ⟨S1x4, .f32⟩
  | 1 => ⟨S4096x4, .f32⟩
  | 2 => ⟨S4096x4, .f32⟩
  | 3 => ⟨S4096x4, .f32⟩
  | 4 => ⟨S4096x4, .f32⟩
  | 5 => ⟨S_, .f32⟩
  | 6 => ⟨S4, .f32⟩
  | 7 => ⟨S_, .f32⟩
  | 8 => ⟨S4, .f32⟩
  | 9 => ⟨S4, .f32⟩
  | 10 => ⟨S4, .f32⟩
  | 11 => ⟨S1x4, .f32⟩
  | 12 => ⟨S4096x4, .f32⟩
  | 13 => ⟨S4096x4, .f32⟩
  | 14 => ⟨S4096x4, .f32⟩
  | 15 => ⟨S64x64x4, .f32⟩
  | 16 => ⟨S64x63x4, .f32⟩
  | 17 => ⟨S64x63x4, .f32⟩
  | 18 => ⟨S64x63x4, .f32⟩
  | 19 => ⟨S63x64x4, .f32⟩
  | 20 => ⟨S63x64x4, .f32⟩
  | 21 => ⟨S63x64x4, .f32⟩
  | 22 => ⟨S_, .f32⟩
  | 23 => ⟨S64x64x4, .f32⟩
  | 24 => ⟨S64x63x4, .f32⟩
  | 25 => ⟨S_, .i32⟩
  | 26 => ⟨S1, .i32⟩
  | 27 => ⟨S64x64x4, .f32⟩
  | 28 => ⟨S_, .i32⟩
  | 29 => ⟨S1, .i32⟩
  | 30 => ⟨S64x64x4, .f32⟩
  | 31 => ⟨S63x64x4, .f32⟩
  | 32 => ⟨S_, .i32⟩
  | 33 => ⟨S1, .i32⟩
  | 34 => ⟨S64x64x4, .f32⟩
  | 35 => ⟨S_, .i32⟩
  | 36 => ⟨S1, .i32⟩
  | 37 => ⟨S64x64x4, .f32⟩
  | 38 => ⟨S_, .f32⟩
  | 39 => ⟨S64x64x4, .f32⟩
  | 40 => ⟨S64x64x4, .f32⟩
  | 41 => ⟨S4096x4, .f32⟩
  | 42 => ⟨S1x4, .f32⟩
  | 43 => ⟨S4096x4, .f32⟩
  | 44 => ⟨S4096x4, .f32⟩
  | 45 => ⟨S4096x4, .f32⟩
  | 46 => ⟨S4096x4, .f32⟩
  | 47 => ⟨S_, .f32⟩
  | 48 => ⟨S4, .f32⟩
  | 49 => ⟨S_, .f32⟩
  | 50 => ⟨S4, .f32⟩
  | 51 => ⟨S4, .f32⟩
  | 52 => ⟨S4, .f32⟩
  | 53 => ⟨S1x4, .f32⟩
  | 54 => ⟨S4096x4, .f32⟩
  | 55 => ⟨S4096x4, .f32⟩
  | 56 => ⟨S4096x4, .f32⟩
  | 57 => ⟨S1x4, .f32⟩
  | 58 => ⟨S4096x4, .f32⟩
  | 59 => ⟨S4096x4, .f32⟩
  | 60 => ⟨S4096x4, .f32⟩
  | 61 => ⟨S4096x4, .f32⟩
  | 62 => ⟨S_, .f32⟩
  | 63 => ⟨S4, .f32⟩
  | 64 => ⟨S_, .f32⟩
  | 65 => ⟨S4, .f32⟩
  | 66 => ⟨S4, .f32⟩
  | 67 => ⟨S4, .f32⟩
  | 68 => ⟨S1x4, .f32⟩
  | 69 => ⟨S4096x4, .f32⟩
  | 70 => ⟨S4096x4, .f32⟩
  | 71 => ⟨S4096x4, .f32⟩
  | 72 => ⟨S64x64x4, .f32⟩
  | 73 => ⟨S64x63x4, .f32⟩
  | 74 => ⟨S64x63x4, .f32⟩
  | 75 => ⟨S64x63x4, .f32⟩
  | 76 => ⟨S63x64x4, .f32⟩
  | 77 => ⟨S63x64x4, .f32⟩
  | 78 => ⟨S63x64x4, .f32⟩
  | 79 => ⟨S_, .f32⟩
  | 80 => ⟨S64x64x4, .f32⟩
  | 81 => ⟨S64x63x4, .f32⟩
  | 82 => ⟨S_, .i32⟩
  | 83 => ⟨S1, .i32⟩
  | 84 => ⟨S64x64x4, .f32⟩
  | 85 => ⟨S_, .i32⟩
  | 86 => ⟨S1, .i32⟩
  | 87 => ⟨S64x64x4, .f32⟩
  | 88 => ⟨S63x64x4, .f32⟩
  | 89 => ⟨S_, .i32⟩
  | 90 => ⟨S1, .i32⟩
  | 91 => ⟨S64x64x4, .f32⟩
  | 92 => ⟨S_, .i32⟩
  | 93 => ⟨S1, .i32⟩
  | 94 => ⟨S64x64x4, .f32⟩
  | 95 => ⟨S_, .f32⟩
  | 96 => ⟨S64x64x4, .f32⟩
  | 97 => ⟨S64x64x4, .f32⟩
  | 98 => ⟨S4096x4, .f32⟩
  | 99 => ⟨S1x4, .f32⟩
  | 100 => ⟨S4096x4, .f32⟩
  | 101 => ⟨S4096x4, .f32⟩
  | 102 => ⟨S4096x4, .f32⟩
  | 103 => ⟨S4096x4, .f32⟩
  | 104 => ⟨S_, .f32⟩
  | 105 => ⟨S4, .f32⟩
  | 106 => ⟨S_, .f32⟩
  | 107 => ⟨S4, .f32⟩
  | 108 => ⟨S4, .f32⟩
  | 109 => ⟨S4, .f32⟩
  | 110 => ⟨S1x4, .f32⟩
  | 111 => ⟨S4096x4, .f32⟩
  | 112 => ⟨S4096x4, .f32⟩
  | 113 => ⟨S4096x4, .f32⟩
  | 114 => ⟨S1x4, .f32⟩
  | 115 => ⟨S4096x4, .f32⟩
  | 116 => ⟨S4096x4, .f32⟩
  | 117 => ⟨S4096x4, .f32⟩
  | 118 => ⟨S4096x4, .f32⟩
  | 119 => ⟨S_, .f32⟩
  | 120 => ⟨S4, .f32⟩
  | 121 => ⟨S_, .f32⟩
  | 122 => ⟨S4, .f32⟩
  | 123 => ⟨S4, .f32⟩
  | 124 => ⟨S4, .f32⟩
  | 125 => ⟨S1x4, .f32⟩
  | 126 => ⟨S4096x4, .f32⟩
  | 127 => ⟨S4096x4, .f32⟩
  | _ => ⟨S4096x4, .f32⟩

abbrev hbmTy0_6 (i : Nat) : BufTy := match i % 128 with
  | 0 => ⟨S4096x4, .f32⟩
  | 1 => ⟨S64x64x4, .f32⟩
  | 2 => ⟨S64x63x4, .f32⟩
  | 3 => ⟨S64x63x4, .f32⟩
  | 4 => ⟨S64x63x4, .f32⟩
  | 5 => ⟨S63x64x4, .f32⟩
  | 6 => ⟨S63x64x4, .f32⟩
  | 7 => ⟨S63x64x4, .f32⟩
  | 8 => ⟨S_, .f32⟩
  | 9 => ⟨S64x64x4, .f32⟩
  | 10 => ⟨S64x63x4, .f32⟩
  | 11 => ⟨S_, .i32⟩
  | 12 => ⟨S1, .i32⟩
  | 13 => ⟨S64x64x4, .f32⟩
  | 14 => ⟨S_, .i32⟩
  | 15 => ⟨S1, .i32⟩
  | 16 => ⟨S64x64x4, .f32⟩
  | 17 => ⟨S63x64x4, .f32⟩
  | 18 => ⟨S_, .i32⟩
  | 19 => ⟨S1, .i32⟩
  | 20 => ⟨S64x64x4, .f32⟩
  | 21 => ⟨S_, .i32⟩
  | 22 => ⟨S1, .i32⟩
  | 23 => ⟨S64x64x4, .f32⟩
  | 24 => ⟨S_, .f32⟩
  | 25 => ⟨S64x64x4, .f32⟩
  | 26 => ⟨S64x64x4, .f32⟩
  | 27 => ⟨S4096x4, .f32⟩
  | 28 => ⟨S1x4, .f32⟩
  | 29 => ⟨S4096x4, .f32⟩
  | 30 => ⟨S4096x4, .f32⟩
  | 31 => ⟨S4096x4, .f32⟩
  | 32 => ⟨S4096x4, .f32⟩
  | 33 => ⟨S_, .f32⟩
  | 34 => ⟨S4, .f32⟩
  | 35 => ⟨S_, .f32⟩
  | 36 => ⟨S4, .f32⟩
  | 37 => ⟨S4, .f32⟩
  | 38 => ⟨S4, .f32⟩
  | 39 => ⟨S1x4, .f32⟩
  | 40 => ⟨S4096x4, .f32⟩
  | 41 => ⟨S4096x4, .f32⟩
  | 42 => ⟨S4096x4, .f32⟩
  | 43 => ⟨S1x4, .f32⟩
  | 44 => ⟨S4096x4, .f32⟩
  | 45 => ⟨S4096x4, .f32⟩
  | 46 => ⟨S4096x4, .f32⟩
  | 47 => ⟨S4096x4, .f32⟩
  | 48 => ⟨S_, .f32⟩
  | 49 => ⟨S4, .f32⟩
  | 50 => ⟨S_, .f32⟩
  | 51 => ⟨S4, .f32⟩
  | 52 => ⟨S4, .f32⟩
  | 53 => ⟨S4, .f32⟩
  | 54 => ⟨S1x4, .f32⟩
  | 55 => ⟨S4096x4, .f32⟩
  | 56 => ⟨S4096x4, .f32⟩
  | 57 => ⟨S4096x4, .f32⟩
  | 58 => ⟨S64x64x4, .f32⟩
  | 59 => ⟨S64x63x4, .f32⟩
  | 60 => ⟨S64x63x4, .f32⟩
  | 61 => ⟨S64x63x4, .f32⟩
  | 62 => ⟨S63x64x4, .f32⟩
  | 63 => ⟨S63x64x4, .f32⟩
  | 64 => ⟨S63x64x4, .f32⟩
  | 65 => ⟨S_, .f32⟩
  | 66 => ⟨S64x64x4, .f32⟩
  | 67 => ⟨S64x63x4, .f32⟩
  | 68 => ⟨S_, .i32⟩
  | 69 => ⟨S1, .i32⟩
  | 70 => ⟨S64x64x4, .f32⟩
  | 71 => ⟨S_, .i32⟩
  | 72 => ⟨S1, .i32⟩
  | 73 => ⟨S64x64x4, .f32⟩
  | 74 => ⟨S63x64x4, .f32⟩
  | 75 => ⟨S_, .i32⟩
  | 76 => ⟨S1, .i32⟩
  | 77 => ⟨S64x64x4, .f32⟩
  | 78 => ⟨S_, .i32⟩
  | 79 => ⟨S1, .i32⟩
  | 80 => ⟨S64x64x4, .f32⟩
  | 81 => ⟨S_, .f32⟩
  | 82 => ⟨S64x64x4, .f32⟩
  | 83 => ⟨S64x64x4, .f32⟩
  | 84 => ⟨S4096x4, .f32⟩
  | 85 => ⟨S1x4, .f32⟩
  | 86 => ⟨S4096x4, .f32⟩
  | 87 => ⟨S4096x4, .f32⟩
  | 88 => ⟨S4096x4, .f32⟩
  | 89 => ⟨S4096x4, .f32⟩
  | 90 => ⟨S_, .f32⟩
  | 91 => ⟨S4, .f32⟩
  | 92 => ⟨S_, .f32⟩
  | 93 => ⟨S4, .f32⟩
  | 94 => ⟨S4, .f32⟩
  | 95 => ⟨S4, .f32⟩
  | 96 => ⟨S1x4, .f32⟩
  | 97 => ⟨S4096x4, .f32⟩
  | 98 => ⟨S4096x4, .f32⟩
  | 99 => ⟨S4096x4, .f32⟩
  | 100 => ⟨S1x4, .f32⟩
  | 101 => ⟨S4096x4, .f32⟩
  | 102 => ⟨S4096x4, .f32⟩
  | 103 => ⟨S4096x4, .f32⟩
  | 104 => ⟨S4096x4, .f32⟩
  | 105 => ⟨S_, .f32⟩
  | 106 => ⟨S4, .f32⟩
  | 107 => ⟨S_, .f32⟩
  | 108 => ⟨S4, .f32⟩
  | 109 => ⟨S4, .f32⟩
  | 110 => ⟨S4, .f32⟩
  | 111 => ⟨S1x4, .f32⟩
  | 112 => ⟨S4096x4, .f32⟩
  | 113 => ⟨S4096x4, .f32⟩
  | 114 => ⟨S4096x4, .f32⟩
  | 115 => ⟨S64x64x4, .f32⟩
  | 116 => ⟨S64x63x4, .f32⟩
  | 117 => ⟨S64x63x4, .f32⟩
  | 118 => ⟨S64x63x4, .f32⟩
  | 119 => ⟨S63x64x4, .f32⟩
  | 120 => ⟨S63x64x4, .f32⟩
  | 121 => ⟨S63x64x4, .f32⟩
  | 122 => ⟨S_, .f32⟩
  | 123 => ⟨S64x64x4, .f32⟩
  | 124 => ⟨S64x63x4, .f32⟩
  | 125 => ⟨S_, .i32⟩
  | 126 => ⟨S1, .i32⟩
  | 127 => ⟨S64x64x4, .f32⟩
  | _ => ⟨S4096x4, .f32⟩

abbrev hbmTy0_7 (i : Nat) : BufTy := match i % 128 with
  | 0 => ⟨S_, .i32⟩
  | 1 => ⟨S1, .i32⟩
  | 2 => ⟨S64x64x4, .f32⟩
  | 3 => ⟨S63x64x4, .f32⟩
  | 4 => ⟨S_, .i32⟩
  | 5 => ⟨S1, .i32⟩
  | 6 => ⟨S64x64x4, .f32⟩
  | 7 => ⟨S_, .i32⟩
  | 8 => ⟨S1, .i32⟩
  | 9 => ⟨S64x64x4, .f32⟩
  | 10 => ⟨S_, .f32⟩
  | 11 => ⟨S64x64x4, .f32⟩
  | 12 => ⟨S64x64x4, .f32⟩
  | 13 => ⟨S4096x4, .f32⟩
  | 14 => ⟨S1x4, .f32⟩
  | 15 => ⟨S4096x4, .f32⟩
  | 16 => ⟨S4096x4, .f32⟩
  | 17 => ⟨S4096x4, .f32⟩
  | 18 => ⟨S4096x4, .f32⟩
  | 19 => ⟨S_, .f32⟩
  | 20 => ⟨S4, .f32⟩
  | 21 => ⟨S_, .f32⟩
  | 22 => ⟨S4, .f32⟩
  | 23 => ⟨S4, .f32⟩
  | 24 => ⟨S4, .f32⟩
  | 25 => ⟨S1x4, .f32⟩
  | 26 => ⟨S4096x4, .f32⟩
  | 27 => ⟨S4096x4, .f32⟩
  | 28 => ⟨S4096x4, .f32⟩
  | 29 => ⟨S1x4, .f32⟩
  | 30 => ⟨S4096x4, .f32⟩
  | 31 => ⟨S4096x4, .f32⟩
  | 32 => ⟨S4096x4, .f32⟩
  | 33 => ⟨S4096x4, .f32⟩
  | 34 => ⟨S_, .f32⟩
  | 35 => ⟨S4, .f32⟩
  | 36 => ⟨S_, .f32⟩
  | 37 => ⟨S4, .f32⟩
  | 38 => ⟨S4, .f32⟩
  | 39 => ⟨S4, .f32⟩
  | 40 => ⟨S1x4, .f32⟩
  | 41 => ⟨S4096x4, .f32⟩
  | 42 => ⟨S4096x4, .f32⟩
  | 43 => ⟨S4096x4, .f32⟩
  | 44 => ⟨S64x64x4, .f32⟩
  | 45 => ⟨S64x63x4, .f32⟩
  | 46 => ⟨S64x63x4, .f32⟩
  | 47 => ⟨S64x63x4, .f32⟩
  | 48 => ⟨S63x64x4, .f32⟩
  | 49 => ⟨S63x64x4, .f32⟩
  | 50 => ⟨S63x64x4, .f32⟩
  | 51 => ⟨S_, .f32⟩
  | 52 => ⟨S64x64x4, .f32⟩
  | 53 => ⟨S64x63x4, .f32⟩
  | 54 => ⟨S_, .i32⟩
  | 55 => ⟨S1, .i32⟩
  | 56 => ⟨S64x64x4, .f32⟩
  | 57 => ⟨S_, .i32⟩
  | 58 => ⟨S1, .i32⟩
  | 59 => ⟨S64x64x4, .f32⟩
  | 60 => ⟨S63x64x4, .f32⟩
  | 61 => ⟨S_, .i32⟩
  | 62 => ⟨S1, .i32⟩
  | 63 => ⟨S64x64x4, .f32⟩
  | 64 => ⟨S_, .i32⟩
  | 65 => ⟨S1, .i32⟩
  | 66 => ⟨S64x64x4, .f32⟩
  | 67 => ⟨S_, .f32⟩
  | 68 => ⟨S64x64x4, .f32⟩
  | 69 => ⟨S64x64x4, .f32⟩
  | 70 => ⟨S4096x4, .f32⟩
  | 71 => ⟨S1x4, .f32⟩
  | 72 => ⟨S4096x4, .f32⟩
  | 73 => ⟨S4096x4, .f32⟩
  | 74 => ⟨S4096x4, .f32⟩
  | 75 => ⟨S4096x4, .f32⟩
  | 76 => ⟨S_, .f32⟩
  | 77 => ⟨S4, .f32⟩
  | 78 => ⟨S_, .f32⟩
  | 79 => ⟨S4, .f32⟩
  | 80 => ⟨S4, .f32⟩
  | 81 => ⟨S4, .f32⟩
  | 82 => ⟨S1x4, .f32⟩
  | 83 => ⟨S4096x4, .f32⟩
  | 84 => ⟨S4096x4, .f32⟩
  | 85 => ⟨S4096x4, .f32⟩
  | 86 => ⟨S1x4, .f32⟩
  | 87 => ⟨S4096x4, .f32⟩
  | 88 => ⟨S4096x4, .f32⟩
  | 89 => ⟨S4096x4, .f32⟩
  | 90 => ⟨S4096x4, .f32⟩
  | 91 => ⟨S_, .f32⟩
  | 92 => ⟨S4, .f32⟩
  | 93 => ⟨S_, .f32⟩
  | 94 => ⟨S4, .f32⟩
  | 95 => ⟨S4, .f32⟩
  | 96 => ⟨S4, .f32⟩
  | 97 => ⟨S1x4, .f32⟩
  | 98 => ⟨S4096x4, .f32⟩
  | 99 => ⟨S4096x4, .f32⟩
  | 100 => ⟨S4096x4, .f32⟩
  | 101 => ⟨S64x64x4, .f32⟩
  | 102 => ⟨S64x63x4, .f32⟩
  | 103 => ⟨S64x63x4, .f32⟩
  | 104 => ⟨S64x63x4, .f32⟩
  | 105 => ⟨S63x64x4, .f32⟩
  | 106 => ⟨S63x64x4, .f32⟩
  | 107 => ⟨S63x64x4, .f32⟩
  | 108 => ⟨S_, .f32⟩
  | 109 => ⟨S64x64x4, .f32⟩
  | 110 => ⟨S64x63x4, .f32⟩
  | 111 => ⟨S_, .i32⟩
  | 112 => ⟨S1, .i32⟩
  | 113 => ⟨S64x64x4, .f32⟩
  | 114 => ⟨S_, .i32⟩
  | 115 => ⟨S1, .i32⟩
  | 116 => ⟨S64x64x4, .f32⟩
  | 117 => ⟨S63x64x4, .f32⟩
  | 118 => ⟨S_, .i32⟩
  | 119 => ⟨S1, .i32⟩
  | 120 => ⟨S64x64x4, .f32⟩
  | 121 => ⟨S_, .i32⟩
  | 122 => ⟨S1, .i32⟩
  | 123 => ⟨S64x64x4, .f32⟩
  | 124 => ⟨S_, .f32⟩
  | 125 => ⟨S64x64x4, .f32⟩
  | 126 => ⟨S64x64x4, .f32⟩
  | 127 => ⟨S4096x4, .f32⟩
  | _ => ⟨S4096x4, .f32⟩

abbrev hbmTy0_8 (i : Nat) : BufTy := match i % 128 with
  | 0 => ⟨S1x4, .f32⟩
  | 1 => ⟨S4096x4, .f32⟩
  | 2 => ⟨S4096x4, .f32⟩
  | 3 => ⟨S4096x4, .f32⟩
  | 4 => ⟨S4096x4, .f32⟩
  | 5 => ⟨S_, .f32⟩
  | 6 => ⟨S4, .f32⟩
  | 7 => ⟨S_, .f32⟩
  | 8 => ⟨S4, .f32⟩
  | 9 => ⟨S4, .f32⟩
  | 10 => ⟨S4, .f32⟩
  | 11 => ⟨S1x4, .f32⟩
  | 12 => ⟨S4096x4, .f32⟩
  | 13 => ⟨S4096x4, .f32⟩
  | 14 => ⟨S4096x4, .f32⟩
  | 15 => ⟨S1x4, .f32⟩
  | 16 => ⟨S4096x4, .f32⟩
  | 17 => ⟨S4096x4, .f32⟩
  | 18 => ⟨S4096x4, .f32⟩
  | 19 => ⟨S4096x4, .f32⟩
  | 20 => ⟨S_, .f32⟩
  | 21 => ⟨S4, .f32⟩
  | 22 => ⟨S_, .f32⟩
  | 23 => ⟨S4, .f32⟩
  | 24 => ⟨S4, .f32⟩
  | 25 => ⟨S4, .f32⟩
  | 26 => ⟨S1x4, .f32⟩
  | 27 => ⟨S4096x4, .f32⟩
  | 28 => ⟨S4096x4, .f32⟩
  | 29 => ⟨S4096x4, .f32⟩
  | 30 => ⟨S64x64x4, .f32⟩
  | 31 => ⟨S64x63x4, .f32⟩
  | 32 => ⟨S64x63x4, .f32⟩
  | 33 => ⟨S64x63x4, .f32⟩
  | 34 => ⟨S63x64x4, .f32⟩
  | 35 => ⟨S63x64x4, .f32⟩
  | 36 => ⟨S63x64x4, .f32⟩
  | 37 => ⟨S_, .f32⟩
  | 38 => ⟨S64x64x4, .f32⟩
  | 39 => ⟨S64x63x4, .f32⟩
  | 40 => ⟨S_, .i32⟩
  | 41 => ⟨S1, .i32⟩
  | 42 => ⟨S64x64x4, .f32⟩
  | 43 => ⟨S_, .i32⟩
  | 44 => ⟨S1, .i32⟩
  | 45 => ⟨S64x64x4, .f32⟩
  | 46 => ⟨S63x64x4, .f32⟩
  | 47 => ⟨S_, .i32⟩
  | 48 => ⟨S1, .i32⟩
  | 49 => ⟨S64x64x4, .f32⟩
  | 50 => ⟨S_, .i32⟩
  | 51 => ⟨S1, .i32⟩
  | 52 => ⟨S64x64x4, .f32⟩
  | 53 => ⟨S_, .f32⟩
  | 54 => ⟨S64x64x4, .f32⟩
  | 55 => ⟨S64x64x4, .f32⟩
  | 56 => ⟨S4096x4, .f32⟩
  | 57 => ⟨S1x4, .f32⟩
  | 58 => ⟨S4096x4, .f32⟩
  | 59 => ⟨S4096x4, .f32⟩
  | 60 => ⟨S4096x4, .f32⟩
  | 61 => ⟨S4096x4, .f32⟩
  | 62 => ⟨S_, .f32⟩
  | 63 => ⟨S4, .f32⟩
  | 64 => ⟨S_, .f32⟩
  | 65 => ⟨S4, .f32⟩
  | 66 => ⟨S4, .f32⟩
  | 67 => ⟨S4, .f32⟩
  | 68 => ⟨S1x4, .f32⟩
  | 69 => ⟨S4096x4, .f32⟩
  | 70 => ⟨S4096x4, .f32⟩
  | 71 => ⟨S4096x4, .f32⟩
  | 72 => ⟨S1x4, .f32⟩
  | 73 => ⟨S4096x4, .f32⟩
  | 74 => ⟨S4096x4, .f32⟩
  | 75 => ⟨S4096x4, .f32⟩
  | 76 => ⟨S4096x4, .f32⟩
  | 77 => ⟨S_, .f32⟩
  | 78 => ⟨S4, .f32⟩
  | 79 => ⟨S_, .f32⟩
  | 80 => ⟨S4, .f32⟩
  | 81 => ⟨S4, .f32⟩
  | 82 => ⟨S4, .f32⟩
  | 83 => ⟨S1x4, .f32⟩
  | 84 => ⟨S4096x4, .f32⟩
  | 85 => ⟨S4096x4, .f32⟩
  | 86 => ⟨S4096x4, .f32⟩
  | 87 => ⟨S64x64x4, .f32⟩
  | 88 => ⟨S64x63x4, .f32⟩
  | 89 => ⟨S64x63x4, .f32⟩
  | 90 => ⟨S64x63x4, .f32⟩
  | 91 => ⟨S63x64x4, .f32⟩
  | 92 => ⟨S63x64x4, .f32⟩
  | 93 => ⟨S63x64x4, .f32⟩
  | 94 => ⟨S_, .f32⟩
  | 95 => ⟨S64x64x4, .f32⟩
  | 96 => ⟨S64x63x4, .f32⟩
  | 97 => ⟨S_, .i32⟩
  | 98 => ⟨S1, .i32⟩
  | 99 => ⟨S64x64x4, .f32⟩
  | 100 => ⟨S_, .i32⟩
  | 101 => ⟨S1, .i32⟩
  | 102 => ⟨S64x64x4, .f32⟩
  | 103 => ⟨S63x64x4, .f32⟩
  | 104 => ⟨S_, .i32⟩
  | 105 => ⟨S1, .i32⟩
  | 106 => ⟨S64x64x4, .f32⟩
  | 107 => ⟨S_, .i32⟩
  | 108 => ⟨S1, .i32⟩
  | 109 => ⟨S64x64x4, .f32⟩
  | 110 => ⟨S_, .f32⟩
  | 111 => ⟨S64x64x4, .f32⟩
  | 112 => ⟨S64x64x4, .f32⟩
  | 113 => ⟨S4096x4, .f32⟩
  | 114 => ⟨S1x4, .f32⟩
  | 115 => ⟨S4096x4, .f32⟩
  | 116 => ⟨S4096x4, .f32⟩
  | 117 => ⟨S4096x4, .f32⟩
  | 118 => ⟨S4096x4, .f32⟩
  | 119 => ⟨S_, .f32⟩
  | 120 => ⟨S4, .f32⟩
  | 121 => ⟨S_, .f32⟩
  | 122 => ⟨S4, .f32⟩
  | 123 => ⟨S4, .f32⟩
  | 124 => ⟨S4, .f32⟩
  | 125 => ⟨S1x4, .f32⟩
  | 126 => ⟨S4096x4, .f32⟩
  | 127 => ⟨S4096x4, .f32⟩
  | _ => ⟨S4096x4, .f32⟩

abbrev hbmTy0_9 (i : Nat) : BufTy := match i % 128 with
  | 0 => ⟨S4096x4, .f32⟩
  | 1 => ⟨S1x4, .f32⟩
  | 2 => ⟨S4096x4, .f32⟩
  | 3 => ⟨S4096x4, .f32⟩
  | 4 => ⟨S4096x4, .f32⟩
  | 5 => ⟨S4096x4, .f32⟩
  | 6 => ⟨S_, .f32⟩
  | 7 => ⟨S4, .f32⟩
  | 8 => ⟨S_, .f32⟩
  | 9 => ⟨S4, .f32⟩
  | 10 => ⟨S4, .f32⟩
  | 11 => ⟨S4, .f32⟩
  | 12 => ⟨S1x4, .f32⟩
  | 13 => ⟨S4096x4, .f32⟩
  | 14 => ⟨S4096x4, .f32⟩
  | 15 => ⟨S4096x4, .f32⟩
  | 16 => ⟨S4096x16, .f32⟩
  | 17 => ⟨S4096x16, .f32⟩
  | 18 => ⟨S4096x16, .f32⟩
  | 19 => ⟨S4096x16, .f32⟩
  | 20 => ⟨S4096x4, .f32⟩
  | 21 => ⟨S4096x4, .f32⟩
  | 22 => ⟨S_, .f32⟩
  | 23 => ⟨S4096x4, .f32⟩
  | 24 => ⟨S4096x4, .f32⟩
  | 25 => ⟨S4096x4, .f32⟩
  | 26 => ⟨S_, .i32⟩
  | 27 => ⟨S_, .i32⟩
  | _ => ⟨S4096x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4096x4, .f32⟩

abbrev bufTy : (tb : Table) → Fin (tcTables nBuf tb) → BufTy
  | .hbm, ⟨i, _⟩ => hbmTy i
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_while0c_c_6 : Ref sig .tc := ⟨.hbm, 18, rfl⟩
abbrev main_while0c_v5 : Ref sig .tc := ⟨.hbm, 19, rfl⟩
abbrev main_while0b_v5 : Ref sig .tc := ⟨.hbm, 20, rfl⟩
abbrev main_while0b_v6 : Ref sig .tc := ⟨.hbm, 21, rfl⟩
abbrev main_while0b_v7 : Ref sig .tc := ⟨.hbm, 22, rfl⟩
abbrev main_while0b_cst_6 : Ref sig .tc := ⟨.hbm, 23, rfl⟩
abbrev main_while0b_v8 : Ref sig .tc := ⟨.hbm, 24, rfl⟩
abbrev main_while0b_v9 : Ref sig .tc := ⟨.hbm, 25, rfl⟩
abbrev main_while0b_cst_7 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_v15 : Ref sig .tc := ⟨.hbm, 32, rfl⟩
abbrev main_while0b_v16 : Ref sig .tc := ⟨.hbm, 33, rfl⟩
abbrev main_while0b_v17 : Ref sig .tc := ⟨.hbm, 34, rfl⟩
abbrev main_while0b_cst_8 : Ref sig .tc := ⟨.hbm, 35, rfl⟩
abbrev main_while0b_v18 : Ref sig .tc := ⟨.hbm, 36, rfl⟩
abbrev main_while0b_v19 : Ref sig .tc := ⟨.hbm, 37, rfl⟩
abbrev main_while0b_c_9 : Ref sig .tc := ⟨.hbm, 38, rfl⟩
abbrev main_while0b_v20 : Ref sig .tc := ⟨.hbm, 39, rfl⟩
abbrev main_while0b_v21 : Ref sig .tc := ⟨.hbm, 40, rfl⟩
abbrev main_while0b_c_10 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_c_11 : Ref sig .tc := ⟨.hbm, 45, rfl⟩
abbrev main_while0b_v25 : Ref sig .tc := ⟨.hbm, 46, rfl⟩
abbrev main_while0b_v26 : Ref sig .tc := ⟨.hbm, 47, rfl⟩
abbrev main_while0b_c_12 : Ref sig .tc := ⟨.hbm, 48, rfl⟩
abbrev main_while0b_v27 : Ref sig .tc := ⟨.hbm, 49, rfl⟩
abbrev main_while0b_v28 : Ref sig .tc := ⟨.hbm, 50, rfl⟩
abbrev main_while0b_cst_13 : Ref sig .tc := ⟨.hbm, 51, rfl⟩
abbrev main_while0b_v29 : Ref sig .tc := ⟨.hbm, 52, rfl⟩
abbrev main_while0b_v30 : Ref sig .tc := ⟨.hbm, 53, rfl⟩
abbrev main_while0b_v31 : Ref sig .tc := ⟨.hbm, 54, rfl⟩
abbrev main_while0b_v32 : Ref sig .tc := ⟨.hbm, 55, rfl⟩
abbrev main_while0b_v33 : Ref sig .tc := ⟨.hbm, 56, rfl⟩
abbrev main_while0b_v34 : Ref sig .tc := ⟨.hbm, 57, rfl⟩
abbrev main_while0b_v35 : Ref sig .tc := ⟨.hbm, 58, rfl⟩
abbrev main_while0b_v36 : Ref sig .tc := ⟨.hbm, 59, rfl⟩
abbrev main_while0b_cst_14 : Ref sig .tc := ⟨.hbm, 60, rfl⟩
abbrev main_while0b_v37 : Ref sig .tc := ⟨.hbm, 61, rfl⟩
abbrev main_while0b_cst_15 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_cst_16 : Ref sig .tc := ⟨.hbm, 75, rfl⟩
abbrev main_while0b_v50 : Ref sig .tc := ⟨.hbm, 76, rfl⟩
abbrev main_while0b_cst_17 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_v61 : Ref sig .tc := ⟨.hbm, 88, rfl⟩
abbrev main_while0b_v62 : Ref sig .tc := ⟨.hbm, 89, rfl⟩
abbrev main_while0b_v63 : Ref sig .tc := ⟨.hbm, 90, rfl⟩
abbrev main_while0b_v64 : Ref sig .tc := ⟨.hbm, 91, rfl⟩
abbrev main_while0b_cst_18 : Ref sig .tc := ⟨.hbm, 92, rfl⟩
abbrev main_while0b_v65 : Ref sig .tc := ⟨.hbm, 93, rfl⟩
abbrev main_while0b_v66 : Ref sig .tc := ⟨.hbm, 94, rfl⟩
abbrev main_while0b_c_19 : Ref sig .tc := ⟨.hbm, 95, rfl⟩
abbrev main_while0b_v67 : Ref sig .tc := ⟨.hbm, 96, rfl⟩
abbrev main_while0b_v68 : Ref sig .tc := ⟨.hbm, 97, rfl⟩
abbrev main_while0b_c_20 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_c_21 : Ref sig .tc := ⟨.hbm, 102, rfl⟩
abbrev main_while0b_v72 : Ref sig .tc := ⟨.hbm, 103, rfl⟩
abbrev main_while0b_v73 : Ref sig .tc := ⟨.hbm, 104, rfl⟩
abbrev main_while0b_c_22 : Ref sig .tc := ⟨.hbm, 105, rfl⟩
abbrev main_while0b_v74 : Ref sig .tc := ⟨.hbm, 106, rfl⟩
abbrev main_while0b_v75 : Ref sig .tc := ⟨.hbm, 107, rfl⟩
abbrev main_while0b_cst_23 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_cst_24 : Ref sig .tc := ⟨.hbm, 117, rfl⟩
abbrev main_while0b_v84 : Ref sig .tc := ⟨.hbm, 118, rfl⟩
abbrev main_while0b_cst_25 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_v91 : Ref sig .tc := ⟨.hbm, 126, rfl⟩
abbrev main_while0b_v92 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_cst_26 : Ref sig .tc := ⟨.hbm, 132, rfl⟩
abbrev main_while0b_v97 : Ref sig .tc := ⟨.hbm, 133, rfl⟩
abbrev main_while0b_cst_27 : Ref sig .tc := ⟨.hbm, 134, rfl⟩
abbrev main_while0b_v98 : Ref sig .tc := ⟨.hbm, 135, rfl⟩
abbrev main_while0b_v99 : Ref sig .tc := ⟨.hbm, 136, rfl⟩
abbrev main_while0b_v100 : Ref sig .tc := ⟨.hbm, 137, rfl⟩
abbrev main_while0b_v101 : Ref sig .tc := ⟨.hbm, 138, rfl⟩
abbrev main_while0b_v102 : Ref sig .tc := ⟨.hbm, 139, rfl⟩
abbrev main_while0b_v103 : Ref sig .tc := ⟨.hbm, 140, rfl⟩
abbrev main_while0b_v104 : Ref sig .tc := ⟨.hbm, 141, rfl⟩
abbrev main_while0b_v105 : Ref sig .tc := ⟨.hbm, 142, rfl⟩
abbrev main_while0b_v106 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_v110 : Ref sig .tc := ⟨.hbm, 147, rfl⟩
abbrev main_while0b_v111 : Ref sig .tc := ⟨.hbm, 148, rfl⟩
abbrev main_while0b_cst_28 : Ref sig .tc := ⟨.hbm, 149, rfl⟩
abbrev main_while0b_v112 : Ref sig .tc := ⟨.hbm, 150, rfl⟩
abbrev main_while0b_v113 : Ref sig .tc := ⟨.hbm, 151, rfl⟩
abbrev main_while0b_c_29 : Ref sig .tc := ⟨.hbm, 152, rfl⟩
abbrev main_while0b_v114 : Ref sig .tc := ⟨.hbm, 153, rfl⟩
abbrev main_while0b_v115 : Ref sig .tc := ⟨.hbm, 154, rfl⟩
abbrev main_while0b_c_30 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_c_31 : Ref sig .tc := ⟨.hbm, 159, rfl⟩
abbrev main_while0b_v119 : Ref sig .tc := ⟨.hbm, 160, rfl⟩
abbrev main_while0b_v120 : Ref sig .tc := ⟨.hbm, 161, rfl⟩
abbrev main_while0b_c_32 : Ref sig .tc := ⟨.hbm, 162, rfl⟩
abbrev main_while0b_v121 : Ref sig .tc := ⟨.hbm, 163, rfl⟩
abbrev main_while0b_v122 : Ref sig .tc := ⟨.hbm, 164, rfl⟩
abbrev main_while0b_cst_33 : Ref sig .tc := ⟨.hbm, 165, rfl⟩
abbrev main_while0b_v123 : Ref sig .tc := ⟨.hbm, 166, rfl⟩
abbrev main_while0b_v124 : Ref sig .tc := ⟨.hbm, 167, rfl⟩
abbrev main_while0b_v125 : Ref sig .tc := ⟨.hbm, 168, rfl⟩
abbrev main_while0b_v126 : Ref sig .tc := ⟨.hbm, 169, rfl⟩
abbrev main_while0b_v127 : Ref sig .tc := ⟨.hbm, 170, rfl⟩
abbrev main_while0b_v128 : Ref sig .tc := ⟨.hbm, 171, rfl⟩
abbrev main_while0b_v129 : Ref sig .tc := ⟨.hbm, 172, rfl⟩
abbrev main_while0b_v130 : Ref sig .tc := ⟨.hbm, 173, rfl⟩
abbrev main_while0b_cst_34 : Ref sig .tc := ⟨.hbm, 174, rfl⟩
abbrev main_while0b_v131 : Ref sig .tc := ⟨.hbm, 175, rfl⟩
abbrev main_while0b_cst_35 : Ref sig .tc := ⟨.hbm, 176, rfl⟩
abbrev main_while0b_v132 : Ref sig .tc := ⟨.hbm, 177, rfl⟩
abbrev main_while0b_v133 : Ref sig .tc := ⟨.hbm, 178, rfl⟩
abbrev main_while0b_v134 : Ref sig .tc := ⟨.hbm, 179, rfl⟩
abbrev main_while0b_v135 : Ref sig .tc := ⟨.hbm, 180, rfl⟩
abbrev main_while0b_v136 : Ref sig .tc := ⟨.hbm, 181, rfl⟩
abbrev main_while0b_v137 : Ref sig .tc := ⟨.hbm, 182, rfl⟩
abbrev main_while0b_v138 : Ref sig .tc := ⟨.hbm, 183, rfl⟩
abbrev main_while0b_v139 : Ref sig .tc := ⟨.hbm, 184, rfl⟩
abbrev main_while0b_v140 : Ref sig .tc := ⟨.hbm, 185, rfl⟩
abbrev main_while0b_v141 : Ref sig .tc := ⟨.hbm, 186, rfl⟩
abbrev main_while0b_v142 : Ref sig .tc := ⟨.hbm, 187, rfl⟩
abbrev main_while0b_v143 : Ref sig .tc := ⟨.hbm, 188, rfl⟩
abbrev main_while0b_cst_36 : Ref sig .tc := ⟨.hbm, 189, rfl⟩
abbrev main_while0b_v144 : Ref sig .tc := ⟨.hbm, 190, rfl⟩
abbrev main_while0b_cst_37 : Ref sig .tc := ⟨.hbm, 191, rfl⟩
abbrev main_while0b_v145 : Ref sig .tc := ⟨.hbm, 192, rfl⟩
abbrev main_while0b_v146 : Ref sig .tc := ⟨.hbm, 193, rfl⟩
abbrev main_while0b_v147 : Ref sig .tc := ⟨.hbm, 194, rfl⟩
abbrev main_while0b_v148 : Ref sig .tc := ⟨.hbm, 195, rfl⟩
abbrev main_while0b_v149 : Ref sig .tc := ⟨.hbm, 196, rfl⟩
abbrev main_while0b_v150 : Ref sig .tc := ⟨.hbm, 197, rfl⟩
abbrev main_while0b_v151 : Ref sig .tc := ⟨.hbm, 198, rfl⟩
abbrev main_while0b_v152 : Ref sig .tc := ⟨.hbm, 199, rfl⟩
abbrev main_while0b_v153 : Ref sig .tc := ⟨.hbm, 200, rfl⟩
abbrev main_while0b_v154 : Ref sig .tc := ⟨.hbm, 201, rfl⟩
abbrev main_while0b_v155 : Ref sig .tc := ⟨.hbm, 202, rfl⟩
abbrev main_while0b_v156 : Ref sig .tc := ⟨.hbm, 203, rfl⟩
abbrev main_while0b_v157 : Ref sig .tc := ⟨.hbm, 204, rfl⟩
abbrev main_while0b_v158 : Ref sig .tc := ⟨.hbm, 205, rfl⟩
abbrev main_while0b_cst_38 : Ref sig .tc := ⟨.hbm, 206, rfl⟩
abbrev main_while0b_v159 : Ref sig .tc := ⟨.hbm, 207, rfl⟩
abbrev main_while0b_v160 : Ref sig .tc := ⟨.hbm, 208, rfl⟩
abbrev main_while0b_c_39 : Ref sig .tc := ⟨.hbm, 209, rfl⟩
abbrev main_while0b_v161 : Ref sig .tc := ⟨.hbm, 210, rfl⟩
abbrev main_while0b_v162 : Ref sig .tc := ⟨.hbm, 211, rfl⟩
abbrev main_while0b_c_40 : Ref sig .tc := ⟨.hbm, 212, rfl⟩
abbrev main_while0b_v163 : Ref sig .tc := ⟨.hbm, 213, rfl⟩
abbrev main_while0b_v164 : Ref sig .tc := ⟨.hbm, 214, rfl⟩
abbrev main_while0b_v165 : Ref sig .tc := ⟨.hbm, 215, rfl⟩
abbrev main_while0b_c_41 : Ref sig .tc := ⟨.hbm, 216, rfl⟩
abbrev main_while0b_v166 : Ref sig .tc := ⟨.hbm, 217, rfl⟩
abbrev main_while0b_v167 : Ref sig .tc := ⟨.hbm, 218, rfl⟩
abbrev main_while0b_c_42 : Ref sig .tc := ⟨.hbm, 219, rfl⟩
abbrev main_while0b_v168 : Ref sig .tc := ⟨.hbm, 220, rfl⟩
abbrev main_while0b_v169 : Ref sig .tc := ⟨.hbm, 221, rfl⟩
abbrev main_while0b_cst_43 : Ref sig .tc := ⟨.hbm, 222, rfl⟩
abbrev main_while0b_v170 : Ref sig .tc := ⟨.hbm, 223, rfl⟩
abbrev main_while0b_v171 : Ref sig .tc := ⟨.hbm, 224, rfl⟩
abbrev main_while0b_v172 : Ref sig .tc := ⟨.hbm, 225, rfl⟩
abbrev main_while0b_v173 : Ref sig .tc := ⟨.hbm, 226, rfl⟩
abbrev main_while0b_v174 : Ref sig .tc := ⟨.hbm, 227, rfl⟩
abbrev main_while0b_v175 : Ref sig .tc := ⟨.hbm, 228, rfl⟩
abbrev main_while0b_v176 : Ref sig .tc := ⟨.hbm, 229, rfl⟩
abbrev main_while0b_v177 : Ref sig .tc := ⟨.hbm, 230, rfl⟩
abbrev main_while0b_cst_44 : Ref sig .tc := ⟨.hbm, 231, rfl⟩
abbrev main_while0b_v178 : Ref sig .tc := ⟨.hbm, 232, rfl⟩
abbrev main_while0b_cst_45 : Ref sig .tc := ⟨.hbm, 233, rfl⟩
abbrev main_while0b_v179 : Ref sig .tc := ⟨.hbm, 234, rfl⟩
abbrev main_while0b_v180 : Ref sig .tc := ⟨.hbm, 235, rfl⟩
abbrev main_while0b_v181 : Ref sig .tc := ⟨.hbm, 236, rfl⟩
abbrev main_while0b_v182 : Ref sig .tc := ⟨.hbm, 237, rfl⟩
abbrev main_while0b_v183 : Ref sig .tc := ⟨.hbm, 238, rfl⟩
abbrev main_while0b_v184 : Ref sig .tc := ⟨.hbm, 239, rfl⟩
abbrev main_while0b_v185 : Ref sig .tc := ⟨.hbm, 240, rfl⟩
abbrev main_while0b_v186 : Ref sig .tc := ⟨.hbm, 241, rfl⟩
abbrev main_while0b_v187 : Ref sig .tc := ⟨.hbm, 242, rfl⟩
abbrev main_while0b_v188 : Ref sig .tc := ⟨.hbm, 243, rfl⟩
abbrev main_while0b_v189 : Ref sig .tc := ⟨.hbm, 244, rfl⟩
abbrev main_while0b_v190 : Ref sig .tc := ⟨.hbm, 245, rfl⟩
abbrev main_while0b_cst_46 : Ref sig .tc := ⟨.hbm, 246, rfl⟩
abbrev main_while0b_v191 : Ref sig .tc := ⟨.hbm, 247, rfl⟩
abbrev main_while0b_cst_47 : Ref sig .tc := ⟨.hbm, 248, rfl⟩
abbrev main_while0b_v192 : Ref sig .tc := ⟨.hbm, 249, rfl⟩
abbrev main_while0b_v193 : Ref sig .tc := ⟨.hbm, 250, rfl⟩
abbrev main_while0b_v194 : Ref sig .tc := ⟨.hbm, 251, rfl⟩
abbrev main_while0b_v195 : Ref sig .tc := ⟨.hbm, 252, rfl⟩
abbrev main_while0b_v196 : Ref sig .tc := ⟨.hbm, 253, rfl⟩
abbrev main_while0b_v197 : Ref sig .tc := ⟨.hbm, 254, rfl⟩
abbrev main_while0b_v198 : Ref sig .tc := ⟨.hbm, 255, rfl⟩
abbrev main_while0b_v199 : Ref sig .tc := ⟨.hbm, 256, rfl⟩
abbrev main_while0b_v200 : Ref sig .tc := ⟨.hbm, 257, rfl⟩
abbrev main_while0b_v201 : Ref sig .tc := ⟨.hbm, 258, rfl⟩
abbrev main_while0b_v202 : Ref sig .tc := ⟨.hbm, 259, rfl⟩
abbrev main_while0b_v203 : Ref sig .tc := ⟨.hbm, 260, rfl⟩
abbrev main_while0b_v204 : Ref sig .tc := ⟨.hbm, 261, rfl⟩
abbrev main_while0b_v205 : Ref sig .tc := ⟨.hbm, 262, rfl⟩
abbrev main_while0b_cst_48 : Ref sig .tc := ⟨.hbm, 263, rfl⟩
abbrev main_while0b_v206 : Ref sig .tc := ⟨.hbm, 264, rfl⟩
abbrev main_while0b_v207 : Ref sig .tc := ⟨.hbm, 265, rfl⟩
abbrev main_while0b_c_49 : Ref sig .tc := ⟨.hbm, 266, rfl⟩
abbrev main_while0b_v208 : Ref sig .tc := ⟨.hbm, 267, rfl⟩
abbrev main_while0b_v209 : Ref sig .tc := ⟨.hbm, 268, rfl⟩
abbrev main_while0b_c_50 : Ref sig .tc := ⟨.hbm, 269, rfl⟩
abbrev main_while0b_v210 : Ref sig .tc := ⟨.hbm, 270, rfl⟩
abbrev main_while0b_v211 : Ref sig .tc := ⟨.hbm, 271, rfl⟩
abbrev main_while0b_v212 : Ref sig .tc := ⟨.hbm, 272, rfl⟩
abbrev main_while0b_c_51 : Ref sig .tc := ⟨.hbm, 273, rfl⟩
abbrev main_while0b_v213 : Ref sig .tc := ⟨.hbm, 274, rfl⟩
abbrev main_while0b_v214 : Ref sig .tc := ⟨.hbm, 275, rfl⟩
abbrev main_while0b_c_52 : Ref sig .tc := ⟨.hbm, 276, rfl⟩
abbrev main_while0b_v215 : Ref sig .tc := ⟨.hbm, 277, rfl⟩
abbrev main_while0b_v216 : Ref sig .tc := ⟨.hbm, 278, rfl⟩
abbrev main_while0b_cst_53 : Ref sig .tc := ⟨.hbm, 279, rfl⟩
abbrev main_while0b_v217 : Ref sig .tc := ⟨.hbm, 280, rfl⟩
abbrev main_while0b_v218 : Ref sig .tc := ⟨.hbm, 281, rfl⟩
abbrev main_while0b_v219 : Ref sig .tc := ⟨.hbm, 282, rfl⟩
abbrev main_while0b_v220 : Ref sig .tc := ⟨.hbm, 283, rfl⟩
abbrev main_while0b_v221 : Ref sig .tc := ⟨.hbm, 284, rfl⟩
abbrev main_while0b_v222 : Ref sig .tc := ⟨.hbm, 285, rfl⟩
abbrev main_while0b_v223 : Ref sig .tc := ⟨.hbm, 286, rfl⟩
abbrev main_while0b_v224 : Ref sig .tc := ⟨.hbm, 287, rfl⟩
abbrev main_while0b_cst_54 : Ref sig .tc := ⟨.hbm, 288, rfl⟩
abbrev main_while0b_v225 : Ref sig .tc := ⟨.hbm, 289, rfl⟩
abbrev main_while0b_cst_55 : Ref sig .tc := ⟨.hbm, 290, rfl⟩
abbrev main_while0b_v226 : Ref sig .tc := ⟨.hbm, 291, rfl⟩
abbrev main_while0b_v227 : Ref sig .tc := ⟨.hbm, 292, rfl⟩
abbrev main_while0b_v228 : Ref sig .tc := ⟨.hbm, 293, rfl⟩
abbrev main_while0b_v229 : Ref sig .tc := ⟨.hbm, 294, rfl⟩
abbrev main_while0b_v230 : Ref sig .tc := ⟨.hbm, 295, rfl⟩
abbrev main_while0b_v231 : Ref sig .tc := ⟨.hbm, 296, rfl⟩
abbrev main_while0b_v232 : Ref sig .tc := ⟨.hbm, 297, rfl⟩
abbrev main_while0b_v233 : Ref sig .tc := ⟨.hbm, 298, rfl⟩
abbrev main_while0b_v234 : Ref sig .tc := ⟨.hbm, 299, rfl⟩
abbrev main_while0b_v235 : Ref sig .tc := ⟨.hbm, 300, rfl⟩
abbrev main_while0b_v236 : Ref sig .tc := ⟨.hbm, 301, rfl⟩
abbrev main_while0b_v237 : Ref sig .tc := ⟨.hbm, 302, rfl⟩
abbrev main_while0b_cst_56 : Ref sig .tc := ⟨.hbm, 303, rfl⟩
abbrev main_while0b_v238 : Ref sig .tc := ⟨.hbm, 304, rfl⟩
abbrev main_while0b_cst_57 : Ref sig .tc := ⟨.hbm, 305, rfl⟩
abbrev main_while0b_v239 : Ref sig .tc := ⟨.hbm, 306, rfl⟩
abbrev main_while0b_v240 : Ref sig .tc := ⟨.hbm, 307, rfl⟩
abbrev main_while0b_v241 : Ref sig .tc := ⟨.hbm, 308, rfl⟩
abbrev main_while0b_v242 : Ref sig .tc := ⟨.hbm, 309, rfl⟩
abbrev main_while0b_v243 : Ref sig .tc := ⟨.hbm, 310, rfl⟩
abbrev main_while0b_v244 : Ref sig .tc := ⟨.hbm, 311, rfl⟩
abbrev main_while0b_v245 : Ref sig .tc := ⟨.hbm, 312, rfl⟩
abbrev main_while0b_v246 : Ref sig .tc := ⟨.hbm, 313, rfl⟩
abbrev main_while0b_v247 : Ref sig .tc := ⟨.hbm, 314, rfl⟩
abbrev main_while0b_v248 : Ref sig .tc := ⟨.hbm, 315, rfl⟩
abbrev main_while0b_v249 : Ref sig .tc := ⟨.hbm, 316, rfl⟩
abbrev main_while0b_v250 : Ref sig .tc := ⟨.hbm, 317, rfl⟩
abbrev main_while0b_v251 : Ref sig .tc := ⟨.hbm, 318, rfl⟩
abbrev main_while0b_v252 : Ref sig .tc := ⟨.hbm, 319, rfl⟩
abbrev main_while0b_cst_58 : Ref sig .tc := ⟨.hbm, 320, rfl⟩
abbrev main_while0b_v253 : Ref sig .tc := ⟨.hbm, 321, rfl⟩
abbrev main_while0b_v254 : Ref sig .tc := ⟨.hbm, 322, rfl⟩
abbrev main_while0b_c_59 : Ref sig .tc := ⟨.hbm, 323, rfl⟩
abbrev main_while0b_v255 : Ref sig .tc := ⟨.hbm, 324, rfl⟩
abbrev main_while0b_v256 : Ref sig .tc := ⟨.hbm, 325, rfl⟩
abbrev main_while0b_c_60 : Ref sig .tc := ⟨.hbm, 326, rfl⟩
abbrev main_while0b_v257 : Ref sig .tc := ⟨.hbm, 327, rfl⟩
abbrev main_while0b_v258 : Ref sig .tc := ⟨.hbm, 328, rfl⟩
abbrev main_while0b_v259 : Ref sig .tc := ⟨.hbm, 329, rfl⟩
abbrev main_while0b_c_61 : Ref sig .tc := ⟨.hbm, 330, rfl⟩
abbrev main_while0b_v260 : Ref sig .tc := ⟨.hbm, 331, rfl⟩
abbrev main_while0b_v261 : Ref sig .tc := ⟨.hbm, 332, rfl⟩
abbrev main_while0b_c_62 : Ref sig .tc := ⟨.hbm, 333, rfl⟩
abbrev main_while0b_v262 : Ref sig .tc := ⟨.hbm, 334, rfl⟩
abbrev main_while0b_v263 : Ref sig .tc := ⟨.hbm, 335, rfl⟩
abbrev main_while0b_cst_63 : Ref sig .tc := ⟨.hbm, 336, rfl⟩
abbrev main_while0b_v264 : Ref sig .tc := ⟨.hbm, 337, rfl⟩
abbrev main_while0b_v265 : Ref sig .tc := ⟨.hbm, 338, rfl⟩
abbrev main_while0b_v266 : Ref sig .tc := ⟨.hbm, 339, rfl⟩
abbrev main_while0b_v267 : Ref sig .tc := ⟨.hbm, 340, rfl⟩
abbrev main_while0b_v268 : Ref sig .tc := ⟨.hbm, 341, rfl⟩
abbrev main_while0b_v269 : Ref sig .tc := ⟨.hbm, 342, rfl⟩
abbrev main_while0b_v270 : Ref sig .tc := ⟨.hbm, 343, rfl⟩
abbrev main_while0b_v271 : Ref sig .tc := ⟨.hbm, 344, rfl⟩
abbrev main_while0b_cst_64 : Ref sig .tc := ⟨.hbm, 345, rfl⟩
abbrev main_while0b_v272 : Ref sig .tc := ⟨.hbm, 346, rfl⟩
abbrev main_while0b_cst_65 : Ref sig .tc := ⟨.hbm, 347, rfl⟩
abbrev main_while0b_v273 : Ref sig .tc := ⟨.hbm, 348, rfl⟩
abbrev main_while0b_v274 : Ref sig .tc := ⟨.hbm, 349, rfl⟩
abbrev main_while0b_v275 : Ref sig .tc := ⟨.hbm, 350, rfl⟩
abbrev main_while0b_v276 : Ref sig .tc := ⟨.hbm, 351, rfl⟩
abbrev main_while0b_v277 : Ref sig .tc := ⟨.hbm, 352, rfl⟩
abbrev main_while0b_v278 : Ref sig .tc := ⟨.hbm, 353, rfl⟩
abbrev main_while0b_v279 : Ref sig .tc := ⟨.hbm, 354, rfl⟩
abbrev main_while0b_v280 : Ref sig .tc := ⟨.hbm, 355, rfl⟩
abbrev main_while0b_v281 : Ref sig .tc := ⟨.hbm, 356, rfl⟩
abbrev main_while0b_v282 : Ref sig .tc := ⟨.hbm, 357, rfl⟩
abbrev main_while0b_v283 : Ref sig .tc := ⟨.hbm, 358, rfl⟩
abbrev main_while0b_v284 : Ref sig .tc := ⟨.hbm, 359, rfl⟩
abbrev main_while0b_cst_66 : Ref sig .tc := ⟨.hbm, 360, rfl⟩
abbrev main_while0b_v285 : Ref sig .tc := ⟨.hbm, 361, rfl⟩
abbrev main_while0b_cst_67 : Ref sig .tc := ⟨.hbm, 362, rfl⟩
abbrev main_while0b_v286 : Ref sig .tc := ⟨.hbm, 363, rfl⟩
abbrev main_while0b_v287 : Ref sig .tc := ⟨.hbm, 364, rfl⟩
abbrev main_while0b_v288 : Ref sig .tc := ⟨.hbm, 365, rfl⟩
abbrev main_while0b_v289 : Ref sig .tc := ⟨.hbm, 366, rfl⟩
abbrev main_while0b_v290 : Ref sig .tc := ⟨.hbm, 367, rfl⟩
abbrev main_while0b_v291 : Ref sig .tc := ⟨.hbm, 368, rfl⟩
abbrev main_while0b_v292 : Ref sig .tc := ⟨.hbm, 369, rfl⟩
abbrev main_while0b_v293 : Ref sig .tc := ⟨.hbm, 370, rfl⟩
abbrev main_while0b_v294 : Ref sig .tc := ⟨.hbm, 371, rfl⟩
abbrev main_while0b_v295 : Ref sig .tc := ⟨.hbm, 372, rfl⟩
abbrev main_while0b_v296 : Ref sig .tc := ⟨.hbm, 373, rfl⟩
abbrev main_while0b_v297 : Ref sig .tc := ⟨.hbm, 374, rfl⟩
abbrev main_while0b_v298 : Ref sig .tc := ⟨.hbm, 375, rfl⟩
abbrev main_while0b_v299 : Ref sig .tc := ⟨.hbm, 376, rfl⟩
abbrev main_while0b_cst_68 : Ref sig .tc := ⟨.hbm, 377, rfl⟩
abbrev main_while0b_v300 : Ref sig .tc := ⟨.hbm, 378, rfl⟩
abbrev main_while0b_v301 : Ref sig .tc := ⟨.hbm, 379, rfl⟩
abbrev main_while0b_c_69 : Ref sig .tc := ⟨.hbm, 380, rfl⟩
abbrev main_while0b_v302 : Ref sig .tc := ⟨.hbm, 381, rfl⟩
abbrev main_while0b_v303 : Ref sig .tc := ⟨.hbm, 382, rfl⟩
abbrev main_while0b_c_70 : Ref sig .tc := ⟨.hbm, 383, rfl⟩
abbrev main_while0b_v304 : Ref sig .tc := ⟨.hbm, 384, rfl⟩
abbrev main_while0b_v305 : Ref sig .tc := ⟨.hbm, 385, rfl⟩
abbrev main_while0b_v306 : Ref sig .tc := ⟨.hbm, 386, rfl⟩
abbrev main_while0b_c_71 : Ref sig .tc := ⟨.hbm, 387, rfl⟩
abbrev main_while0b_v307 : Ref sig .tc := ⟨.hbm, 388, rfl⟩
abbrev main_while0b_v308 : Ref sig .tc := ⟨.hbm, 389, rfl⟩
abbrev main_while0b_c_72 : Ref sig .tc := ⟨.hbm, 390, rfl⟩
abbrev main_while0b_v309 : Ref sig .tc := ⟨.hbm, 391, rfl⟩
abbrev main_while0b_v310 : Ref sig .tc := ⟨.hbm, 392, rfl⟩
abbrev main_while0b_cst_73 : Ref sig .tc := ⟨.hbm, 393, rfl⟩
abbrev main_while0b_v311 : Ref sig .tc := ⟨.hbm, 394, rfl⟩
abbrev main_while0b_v312 : Ref sig .tc := ⟨.hbm, 395, rfl⟩
abbrev main_while0b_v313 : Ref sig .tc := ⟨.hbm, 396, rfl⟩
abbrev main_while0b_v314 : Ref sig .tc := ⟨.hbm, 397, rfl⟩
abbrev main_while0b_v315 : Ref sig .tc := ⟨.hbm, 398, rfl⟩
abbrev main_while0b_v316 : Ref sig .tc := ⟨.hbm, 399, rfl⟩
abbrev main_while0b_v317 : Ref sig .tc := ⟨.hbm, 400, rfl⟩
abbrev main_while0b_v318 : Ref sig .tc := ⟨.hbm, 401, rfl⟩
abbrev main_while0b_cst_74 : Ref sig .tc := ⟨.hbm, 402, rfl⟩
abbrev main_while0b_v319 : Ref sig .tc := ⟨.hbm, 403, rfl⟩
abbrev main_while0b_cst_75 : Ref sig .tc := ⟨.hbm, 404, rfl⟩
abbrev main_while0b_v320 : Ref sig .tc := ⟨.hbm, 405, rfl⟩
abbrev main_while0b_v321 : Ref sig .tc := ⟨.hbm, 406, rfl⟩
abbrev main_while0b_v322 : Ref sig .tc := ⟨.hbm, 407, rfl⟩
abbrev main_while0b_v323 : Ref sig .tc := ⟨.hbm, 408, rfl⟩
abbrev main_while0b_v324 : Ref sig .tc := ⟨.hbm, 409, rfl⟩
abbrev main_while0b_v325 : Ref sig .tc := ⟨.hbm, 410, rfl⟩
abbrev main_while0b_v326 : Ref sig .tc := ⟨.hbm, 411, rfl⟩
abbrev main_while0b_v327 : Ref sig .tc := ⟨.hbm, 412, rfl⟩
abbrev main_while0b_v328 : Ref sig .tc := ⟨.hbm, 413, rfl⟩
abbrev main_while0b_v329 : Ref sig .tc := ⟨.hbm, 414, rfl⟩
abbrev main_while0b_v330 : Ref sig .tc := ⟨.hbm, 415, rfl⟩
abbrev main_while0b_v331 : Ref sig .tc := ⟨.hbm, 416, rfl⟩
abbrev main_while0b_cst_76 : Ref sig .tc := ⟨.hbm, 417, rfl⟩
abbrev main_while0b_v332 : Ref sig .tc := ⟨.hbm, 418, rfl⟩
abbrev main_while0b_cst_77 : Ref sig .tc := ⟨.hbm, 419, rfl⟩
abbrev main_while0b_v333 : Ref sig .tc := ⟨.hbm, 420, rfl⟩
abbrev main_while0b_v334 : Ref sig .tc := ⟨.hbm, 421, rfl⟩
abbrev main_while0b_v335 : Ref sig .tc := ⟨.hbm, 422, rfl⟩
abbrev main_while0b_v336 : Ref sig .tc := ⟨.hbm, 423, rfl⟩
abbrev main_while0b_v337 : Ref sig .tc := ⟨.hbm, 424, rfl⟩
abbrev main_while0b_v338 : Ref sig .tc := ⟨.hbm, 425, rfl⟩
abbrev main_while0b_v339 : Ref sig .tc := ⟨.hbm, 426, rfl⟩
abbrev main_while0b_v340 : Ref sig .tc := ⟨.hbm, 427, rfl⟩
abbrev main_while0b_v341 : Ref sig .tc := ⟨.hbm, 428, rfl⟩
abbrev main_while0b_v342 : Ref sig .tc := ⟨.hbm, 429, rfl⟩
abbrev main_while0b_v343 : Ref sig .tc := ⟨.hbm, 430, rfl⟩
abbrev main_while0b_v344 : Ref sig .tc := ⟨.hbm, 431, rfl⟩
abbrev main_while0b_v345 : Ref sig .tc := ⟨.hbm, 432, rfl⟩
abbrev main_while0b_v346 : Ref sig .tc := ⟨.hbm, 433, rfl⟩
abbrev main_while0b_cst_78 : Ref sig .tc := ⟨.hbm, 434, rfl⟩
abbrev main_while0b_v347 : Ref sig .tc := ⟨.hbm, 435, rfl⟩
abbrev main_while0b_v348 : Ref sig .tc := ⟨.hbm, 436, rfl⟩
abbrev main_while0b_c_79 : Ref sig .tc := ⟨.hbm, 437, rfl⟩
abbrev main_while0b_v349 : Ref sig .tc := ⟨.hbm, 438, rfl⟩
abbrev main_while0b_v350 : Ref sig .tc := ⟨.hbm, 439, rfl⟩
abbrev main_while0b_c_80 : Ref sig .tc := ⟨.hbm, 440, rfl⟩
abbrev main_while0b_v351 : Ref sig .tc := ⟨.hbm, 441, rfl⟩
abbrev main_while0b_v352 : Ref sig .tc := ⟨.hbm, 442, rfl⟩
abbrev main_while0b_v353 : Ref sig .tc := ⟨.hbm, 443, rfl⟩
abbrev main_while0b_c_81 : Ref sig .tc := ⟨.hbm, 444, rfl⟩
abbrev main_while0b_v354 : Ref sig .tc := ⟨.hbm, 445, rfl⟩
abbrev main_while0b_v355 : Ref sig .tc := ⟨.hbm, 446, rfl⟩
abbrev main_while0b_c_82 : Ref sig .tc := ⟨.hbm, 447, rfl⟩
abbrev main_while0b_v356 : Ref sig .tc := ⟨.hbm, 448, rfl⟩
abbrev main_while0b_v357 : Ref sig .tc := ⟨.hbm, 449, rfl⟩
abbrev main_while0b_cst_83 : Ref sig .tc := ⟨.hbm, 450, rfl⟩
abbrev main_while0b_v358 : Ref sig .tc := ⟨.hbm, 451, rfl⟩
abbrev main_while0b_v359 : Ref sig .tc := ⟨.hbm, 452, rfl⟩
abbrev main_while0b_v360 : Ref sig .tc := ⟨.hbm, 453, rfl⟩
abbrev main_while0b_v361 : Ref sig .tc := ⟨.hbm, 454, rfl⟩
abbrev main_while0b_v362 : Ref sig .tc := ⟨.hbm, 455, rfl⟩
abbrev main_while0b_v363 : Ref sig .tc := ⟨.hbm, 456, rfl⟩
abbrev main_while0b_v364 : Ref sig .tc := ⟨.hbm, 457, rfl⟩
abbrev main_while0b_v365 : Ref sig .tc := ⟨.hbm, 458, rfl⟩
abbrev main_while0b_cst_84 : Ref sig .tc := ⟨.hbm, 459, rfl⟩
abbrev main_while0b_v366 : Ref sig .tc := ⟨.hbm, 460, rfl⟩
abbrev main_while0b_cst_85 : Ref sig .tc := ⟨.hbm, 461, rfl⟩
abbrev main_while0b_v367 : Ref sig .tc := ⟨.hbm, 462, rfl⟩
abbrev main_while0b_v368 : Ref sig .tc := ⟨.hbm, 463, rfl⟩
abbrev main_while0b_v369 : Ref sig .tc := ⟨.hbm, 464, rfl⟩
abbrev main_while0b_v370 : Ref sig .tc := ⟨.hbm, 465, rfl⟩
abbrev main_while0b_v371 : Ref sig .tc := ⟨.hbm, 466, rfl⟩
abbrev main_while0b_v372 : Ref sig .tc := ⟨.hbm, 467, rfl⟩
abbrev main_while0b_v373 : Ref sig .tc := ⟨.hbm, 468, rfl⟩
abbrev main_while0b_v374 : Ref sig .tc := ⟨.hbm, 469, rfl⟩
abbrev main_while0b_v375 : Ref sig .tc := ⟨.hbm, 470, rfl⟩
abbrev main_while0b_v376 : Ref sig .tc := ⟨.hbm, 471, rfl⟩
abbrev main_while0b_v377 : Ref sig .tc := ⟨.hbm, 472, rfl⟩
abbrev main_while0b_v378 : Ref sig .tc := ⟨.hbm, 473, rfl⟩
abbrev main_while0b_cst_86 : Ref sig .tc := ⟨.hbm, 474, rfl⟩
abbrev main_while0b_v379 : Ref sig .tc := ⟨.hbm, 475, rfl⟩
abbrev main_while0b_cst_87 : Ref sig .tc := ⟨.hbm, 476, rfl⟩
abbrev main_while0b_v380 : Ref sig .tc := ⟨.hbm, 477, rfl⟩
abbrev main_while0b_v381 : Ref sig .tc := ⟨.hbm, 478, rfl⟩
abbrev main_while0b_v382 : Ref sig .tc := ⟨.hbm, 479, rfl⟩
abbrev main_while0b_v383 : Ref sig .tc := ⟨.hbm, 480, rfl⟩
abbrev main_while0b_v384 : Ref sig .tc := ⟨.hbm, 481, rfl⟩
abbrev main_while0b_v385 : Ref sig .tc := ⟨.hbm, 482, rfl⟩
abbrev main_while0b_v386 : Ref sig .tc := ⟨.hbm, 483, rfl⟩
abbrev main_while0b_v387 : Ref sig .tc := ⟨.hbm, 484, rfl⟩
abbrev main_while0b_v388 : Ref sig .tc := ⟨.hbm, 485, rfl⟩
abbrev main_while0b_v389 : Ref sig .tc := ⟨.hbm, 486, rfl⟩
abbrev main_while0b_v390 : Ref sig .tc := ⟨.hbm, 487, rfl⟩
abbrev main_while0b_v391 : Ref sig .tc := ⟨.hbm, 488, rfl⟩
abbrev main_while0b_v392 : Ref sig .tc := ⟨.hbm, 489, rfl⟩
abbrev main_while0b_v393 : Ref sig .tc := ⟨.hbm, 490, rfl⟩
abbrev main_while0b_cst_88 : Ref sig .tc := ⟨.hbm, 491, rfl⟩
abbrev main_while0b_v394 : Ref sig .tc := ⟨.hbm, 492, rfl⟩
abbrev main_while0b_v395 : Ref sig .tc := ⟨.hbm, 493, rfl⟩
abbrev main_while0b_c_89 : Ref sig .tc := ⟨.hbm, 494, rfl⟩
abbrev main_while0b_v396 : Ref sig .tc := ⟨.hbm, 495, rfl⟩
abbrev main_while0b_v397 : Ref sig .tc := ⟨.hbm, 496, rfl⟩
abbrev main_while0b_c_90 : Ref sig .tc := ⟨.hbm, 497, rfl⟩
abbrev main_while0b_v398 : Ref sig .tc := ⟨.hbm, 498, rfl⟩
abbrev main_while0b_v399 : Ref sig .tc := ⟨.hbm, 499, rfl⟩
abbrev main_while0b_v400 : Ref sig .tc := ⟨.hbm, 500, rfl⟩
abbrev main_while0b_c_91 : Ref sig .tc := ⟨.hbm, 501, rfl⟩
abbrev main_while0b_v401 : Ref sig .tc := ⟨.hbm, 502, rfl⟩
abbrev main_while0b_v402 : Ref sig .tc := ⟨.hbm, 503, rfl⟩
abbrev main_while0b_c_92 : Ref sig .tc := ⟨.hbm, 504, rfl⟩
abbrev main_while0b_v403 : Ref sig .tc := ⟨.hbm, 505, rfl⟩
abbrev main_while0b_v404 : Ref sig .tc := ⟨.hbm, 506, rfl⟩
abbrev main_while0b_cst_93 : Ref sig .tc := ⟨.hbm, 507, rfl⟩
abbrev main_while0b_v405 : Ref sig .tc := ⟨.hbm, 508, rfl⟩
abbrev main_while0b_v406 : Ref sig .tc := ⟨.hbm, 509, rfl⟩
abbrev main_while0b_v407 : Ref sig .tc := ⟨.hbm, 510, rfl⟩
abbrev main_while0b_v408 : Ref sig .tc := ⟨.hbm, 511, rfl⟩
abbrev main_while0b_v409 : Ref sig .tc := ⟨.hbm, 512, rfl⟩
abbrev main_while0b_v410 : Ref sig .tc := ⟨.hbm, 513, rfl⟩
abbrev main_while0b_v411 : Ref sig .tc := ⟨.hbm, 514, rfl⟩
abbrev main_while0b_v412 : Ref sig .tc := ⟨.hbm, 515, rfl⟩
abbrev main_while0b_cst_94 : Ref sig .tc := ⟨.hbm, 516, rfl⟩
abbrev main_while0b_v413 : Ref sig .tc := ⟨.hbm, 517, rfl⟩
abbrev main_while0b_cst_95 : Ref sig .tc := ⟨.hbm, 518, rfl⟩
abbrev main_while0b_v414 : Ref sig .tc := ⟨.hbm, 519, rfl⟩
abbrev main_while0b_v415 : Ref sig .tc := ⟨.hbm, 520, rfl⟩
abbrev main_while0b_v416 : Ref sig .tc := ⟨.hbm, 521, rfl⟩
abbrev main_while0b_v417 : Ref sig .tc := ⟨.hbm, 522, rfl⟩
abbrev main_while0b_v418 : Ref sig .tc := ⟨.hbm, 523, rfl⟩
abbrev main_while0b_v419 : Ref sig .tc := ⟨.hbm, 524, rfl⟩
abbrev main_while0b_v420 : Ref sig .tc := ⟨.hbm, 525, rfl⟩
abbrev main_while0b_v421 : Ref sig .tc := ⟨.hbm, 526, rfl⟩
abbrev main_while0b_v422 : Ref sig .tc := ⟨.hbm, 527, rfl⟩
abbrev main_while0b_v423 : Ref sig .tc := ⟨.hbm, 528, rfl⟩
abbrev main_while0b_v424 : Ref sig .tc := ⟨.hbm, 529, rfl⟩
abbrev main_while0b_v425 : Ref sig .tc := ⟨.hbm, 530, rfl⟩
abbrev main_while0b_cst_96 : Ref sig .tc := ⟨.hbm, 531, rfl⟩
abbrev main_while0b_v426 : Ref sig .tc := ⟨.hbm, 532, rfl⟩
abbrev main_while0b_cst_97 : Ref sig .tc := ⟨.hbm, 533, rfl⟩
abbrev main_while0b_v427 : Ref sig .tc := ⟨.hbm, 534, rfl⟩
abbrev main_while0b_v428 : Ref sig .tc := ⟨.hbm, 535, rfl⟩
abbrev main_while0b_v429 : Ref sig .tc := ⟨.hbm, 536, rfl⟩
abbrev main_while0b_v430 : Ref sig .tc := ⟨.hbm, 537, rfl⟩
abbrev main_while0b_v431 : Ref sig .tc := ⟨.hbm, 538, rfl⟩
abbrev main_while0b_v432 : Ref sig .tc := ⟨.hbm, 539, rfl⟩
abbrev main_while0b_v433 : Ref sig .tc := ⟨.hbm, 540, rfl⟩
abbrev main_while0b_v434 : Ref sig .tc := ⟨.hbm, 541, rfl⟩
abbrev main_while0b_v435 : Ref sig .tc := ⟨.hbm, 542, rfl⟩
abbrev main_while0b_v436 : Ref sig .tc := ⟨.hbm, 543, rfl⟩
abbrev main_while0b_v437 : Ref sig .tc := ⟨.hbm, 544, rfl⟩
abbrev main_while0b_v438 : Ref sig .tc := ⟨.hbm, 545, rfl⟩
abbrev main_while0b_v439 : Ref sig .tc := ⟨.hbm, 546, rfl⟩
abbrev main_while0b_v440 : Ref sig .tc := ⟨.hbm, 547, rfl⟩
abbrev main_while0b_cst_98 : Ref sig .tc := ⟨.hbm, 548, rfl⟩
abbrev main_while0b_v441 : Ref sig .tc := ⟨.hbm, 549, rfl⟩
abbrev main_while0b_v442 : Ref sig .tc := ⟨.hbm, 550, rfl⟩
abbrev main_while0b_c_99 : Ref sig .tc := ⟨.hbm, 551, rfl⟩
abbrev main_while0b_v443 : Ref sig .tc := ⟨.hbm, 552, rfl⟩
abbrev main_while0b_v444 : Ref sig .tc := ⟨.hbm, 553, rfl⟩
abbrev main_while0b_c_100 : Ref sig .tc := ⟨.hbm, 554, rfl⟩
abbrev main_while0b_v445 : Ref sig .tc := ⟨.hbm, 555, rfl⟩
abbrev main_while0b_v446 : Ref sig .tc := ⟨.hbm, 556, rfl⟩
abbrev main_while0b_v447 : Ref sig .tc := ⟨.hbm, 557, rfl⟩
abbrev main_while0b_c_101 : Ref sig .tc := ⟨.hbm, 558, rfl⟩
abbrev main_while0b_v448 : Ref sig .tc := ⟨.hbm, 559, rfl⟩
abbrev main_while0b_v449 : Ref sig .tc := ⟨.hbm, 560, rfl⟩
abbrev main_while0b_c_102 : Ref sig .tc := ⟨.hbm, 561, rfl⟩
abbrev main_while0b_v450 : Ref sig .tc := ⟨.hbm, 562, rfl⟩
abbrev main_while0b_v451 : Ref sig .tc := ⟨.hbm, 563, rfl⟩
abbrev main_while0b_cst_103 : Ref sig .tc := ⟨.hbm, 564, rfl⟩
abbrev main_while0b_v452 : Ref sig .tc := ⟨.hbm, 565, rfl⟩
abbrev main_while0b_v453 : Ref sig .tc := ⟨.hbm, 566, rfl⟩
abbrev main_while0b_v454 : Ref sig .tc := ⟨.hbm, 567, rfl⟩
abbrev main_while0b_v455 : Ref sig .tc := ⟨.hbm, 568, rfl⟩
abbrev main_while0b_v456 : Ref sig .tc := ⟨.hbm, 569, rfl⟩
abbrev main_while0b_v457 : Ref sig .tc := ⟨.hbm, 570, rfl⟩
abbrev main_while0b_v458 : Ref sig .tc := ⟨.hbm, 571, rfl⟩
abbrev main_while0b_v459 : Ref sig .tc := ⟨.hbm, 572, rfl⟩
abbrev main_while0b_cst_104 : Ref sig .tc := ⟨.hbm, 573, rfl⟩
abbrev main_while0b_v460 : Ref sig .tc := ⟨.hbm, 574, rfl⟩
abbrev main_while0b_cst_105 : Ref sig .tc := ⟨.hbm, 575, rfl⟩
abbrev main_while0b_v461 : Ref sig .tc := ⟨.hbm, 576, rfl⟩
abbrev main_while0b_v462 : Ref sig .tc := ⟨.hbm, 577, rfl⟩
abbrev main_while0b_v463 : Ref sig .tc := ⟨.hbm, 578, rfl⟩
abbrev main_while0b_v464 : Ref sig .tc := ⟨.hbm, 579, rfl⟩
abbrev main_while0b_v465 : Ref sig .tc := ⟨.hbm, 580, rfl⟩
abbrev main_while0b_v466 : Ref sig .tc := ⟨.hbm, 581, rfl⟩
abbrev main_while0b_v467 : Ref sig .tc := ⟨.hbm, 582, rfl⟩
abbrev main_while0b_v468 : Ref sig .tc := ⟨.hbm, 583, rfl⟩
abbrev main_while0b_v469 : Ref sig .tc := ⟨.hbm, 584, rfl⟩
abbrev main_while0b_v470 : Ref sig .tc := ⟨.hbm, 585, rfl⟩
abbrev main_while0b_v471 : Ref sig .tc := ⟨.hbm, 586, rfl⟩
abbrev main_while0b_v472 : Ref sig .tc := ⟨.hbm, 587, rfl⟩
abbrev main_while0b_cst_106 : Ref sig .tc := ⟨.hbm, 588, rfl⟩
abbrev main_while0b_v473 : Ref sig .tc := ⟨.hbm, 589, rfl⟩
abbrev main_while0b_cst_107 : Ref sig .tc := ⟨.hbm, 590, rfl⟩
abbrev main_while0b_v474 : Ref sig .tc := ⟨.hbm, 591, rfl⟩
abbrev main_while0b_v475 : Ref sig .tc := ⟨.hbm, 592, rfl⟩
abbrev main_while0b_v476 : Ref sig .tc := ⟨.hbm, 593, rfl⟩
abbrev main_while0b_v477 : Ref sig .tc := ⟨.hbm, 594, rfl⟩
abbrev main_while0b_v478 : Ref sig .tc := ⟨.hbm, 595, rfl⟩
abbrev main_while0b_v479 : Ref sig .tc := ⟨.hbm, 596, rfl⟩
abbrev main_while0b_v480 : Ref sig .tc := ⟨.hbm, 597, rfl⟩
abbrev main_while0b_v481 : Ref sig .tc := ⟨.hbm, 598, rfl⟩
abbrev main_while0b_v482 : Ref sig .tc := ⟨.hbm, 599, rfl⟩
abbrev main_while0b_v483 : Ref sig .tc := ⟨.hbm, 600, rfl⟩
abbrev main_while0b_v484 : Ref sig .tc := ⟨.hbm, 601, rfl⟩
abbrev main_while0b_v485 : Ref sig .tc := ⟨.hbm, 602, rfl⟩
abbrev main_while0b_v486 : Ref sig .tc := ⟨.hbm, 603, rfl⟩
abbrev main_while0b_v487 : Ref sig .tc := ⟨.hbm, 604, rfl⟩
abbrev main_while0b_cst_108 : Ref sig .tc := ⟨.hbm, 605, rfl⟩
abbrev main_while0b_v488 : Ref sig .tc := ⟨.hbm, 606, rfl⟩
abbrev main_while0b_v489 : Ref sig .tc := ⟨.hbm, 607, rfl⟩
abbrev main_while0b_c_109 : Ref sig .tc := ⟨.hbm, 608, rfl⟩
abbrev main_while0b_v490 : Ref sig .tc := ⟨.hbm, 609, rfl⟩
abbrev main_while0b_v491 : Ref sig .tc := ⟨.hbm, 610, rfl⟩
abbrev main_while0b_c_110 : Ref sig .tc := ⟨.hbm, 611, rfl⟩
abbrev main_while0b_v492 : Ref sig .tc := ⟨.hbm, 612, rfl⟩
abbrev main_while0b_v493 : Ref sig .tc := ⟨.hbm, 613, rfl⟩
abbrev main_while0b_v494 : Ref sig .tc := ⟨.hbm, 614, rfl⟩
abbrev main_while0b_c_111 : Ref sig .tc := ⟨.hbm, 615, rfl⟩
abbrev main_while0b_v495 : Ref sig .tc := ⟨.hbm, 616, rfl⟩
abbrev main_while0b_v496 : Ref sig .tc := ⟨.hbm, 617, rfl⟩
abbrev main_while0b_c_112 : Ref sig .tc := ⟨.hbm, 618, rfl⟩
abbrev main_while0b_v497 : Ref sig .tc := ⟨.hbm, 619, rfl⟩
abbrev main_while0b_v498 : Ref sig .tc := ⟨.hbm, 620, rfl⟩
abbrev main_while0b_cst_113 : Ref sig .tc := ⟨.hbm, 621, rfl⟩
abbrev main_while0b_v499 : Ref sig .tc := ⟨.hbm, 622, rfl⟩
abbrev main_while0b_v500 : Ref sig .tc := ⟨.hbm, 623, rfl⟩
abbrev main_while0b_v501 : Ref sig .tc := ⟨.hbm, 624, rfl⟩
abbrev main_while0b_v502 : Ref sig .tc := ⟨.hbm, 625, rfl⟩
abbrev main_while0b_v503 : Ref sig .tc := ⟨.hbm, 626, rfl⟩
abbrev main_while0b_v504 : Ref sig .tc := ⟨.hbm, 627, rfl⟩
abbrev main_while0b_v505 : Ref sig .tc := ⟨.hbm, 628, rfl⟩
abbrev main_while0b_v506 : Ref sig .tc := ⟨.hbm, 629, rfl⟩
abbrev main_while0b_cst_114 : Ref sig .tc := ⟨.hbm, 630, rfl⟩
abbrev main_while0b_v507 : Ref sig .tc := ⟨.hbm, 631, rfl⟩
abbrev main_while0b_cst_115 : Ref sig .tc := ⟨.hbm, 632, rfl⟩
abbrev main_while0b_v508 : Ref sig .tc := ⟨.hbm, 633, rfl⟩
abbrev main_while0b_v509 : Ref sig .tc := ⟨.hbm, 634, rfl⟩
abbrev main_while0b_v510 : Ref sig .tc := ⟨.hbm, 635, rfl⟩
abbrev main_while0b_v511 : Ref sig .tc := ⟨.hbm, 636, rfl⟩
abbrev main_while0b_v512 : Ref sig .tc := ⟨.hbm, 637, rfl⟩
abbrev main_while0b_v513 : Ref sig .tc := ⟨.hbm, 638, rfl⟩
abbrev main_while0b_v514 : Ref sig .tc := ⟨.hbm, 639, rfl⟩
abbrev main_while0b_v515 : Ref sig .tc := ⟨.hbm, 640, rfl⟩
abbrev main_while0b_v516 : Ref sig .tc := ⟨.hbm, 641, rfl⟩
abbrev main_while0b_v517 : Ref sig .tc := ⟨.hbm, 642, rfl⟩
abbrev main_while0b_v518 : Ref sig .tc := ⟨.hbm, 643, rfl⟩
abbrev main_while0b_v519 : Ref sig .tc := ⟨.hbm, 644, rfl⟩
abbrev main_while0b_cst_116 : Ref sig .tc := ⟨.hbm, 645, rfl⟩
abbrev main_while0b_v520 : Ref sig .tc := ⟨.hbm, 646, rfl⟩
abbrev main_while0b_cst_117 : Ref sig .tc := ⟨.hbm, 647, rfl⟩
abbrev main_while0b_v521 : Ref sig .tc := ⟨.hbm, 648, rfl⟩
abbrev main_while0b_v522 : Ref sig .tc := ⟨.hbm, 649, rfl⟩
abbrev main_while0b_v523 : Ref sig .tc := ⟨.hbm, 650, rfl⟩
abbrev main_while0b_v524 : Ref sig .tc := ⟨.hbm, 651, rfl⟩
abbrev main_while0b_v525 : Ref sig .tc := ⟨.hbm, 652, rfl⟩
abbrev main_while0b_v526 : Ref sig .tc := ⟨.hbm, 653, rfl⟩
abbrev main_while0b_v527 : Ref sig .tc := ⟨.hbm, 654, rfl⟩
abbrev main_while0b_v528 : Ref sig .tc := ⟨.hbm, 655, rfl⟩
abbrev main_while0b_v529 : Ref sig .tc := ⟨.hbm, 656, rfl⟩
abbrev main_while0b_v530 : Ref sig .tc := ⟨.hbm, 657, rfl⟩
abbrev main_while0b_v531 : Ref sig .tc := ⟨.hbm, 658, rfl⟩
abbrev main_while0b_v532 : Ref sig .tc := ⟨.hbm, 659, rfl⟩
abbrev main_while0b_v533 : Ref sig .tc := ⟨.hbm, 660, rfl⟩
abbrev main_while0b_v534 : Ref sig .tc := ⟨.hbm, 661, rfl⟩
abbrev main_while0b_cst_118 : Ref sig .tc := ⟨.hbm, 662, rfl⟩
abbrev main_while0b_v535 : Ref sig .tc := ⟨.hbm, 663, rfl⟩
abbrev main_while0b_v536 : Ref sig .tc := ⟨.hbm, 664, rfl⟩
abbrev main_while0b_c_119 : Ref sig .tc := ⟨.hbm, 665, rfl⟩
abbrev main_while0b_v537 : Ref sig .tc := ⟨.hbm, 666, rfl⟩
abbrev main_while0b_v538 : Ref sig .tc := ⟨.hbm, 667, rfl⟩
abbrev main_while0b_c_120 : Ref sig .tc := ⟨.hbm, 668, rfl⟩
abbrev main_while0b_v539 : Ref sig .tc := ⟨.hbm, 669, rfl⟩
abbrev main_while0b_v540 : Ref sig .tc := ⟨.hbm, 670, rfl⟩
abbrev main_while0b_v541 : Ref sig .tc := ⟨.hbm, 671, rfl⟩
abbrev main_while0b_c_121 : Ref sig .tc := ⟨.hbm, 672, rfl⟩
abbrev main_while0b_v542 : Ref sig .tc := ⟨.hbm, 673, rfl⟩
abbrev main_while0b_v543 : Ref sig .tc := ⟨.hbm, 674, rfl⟩
abbrev main_while0b_c_122 : Ref sig .tc := ⟨.hbm, 675, rfl⟩
abbrev main_while0b_v544 : Ref sig .tc := ⟨.hbm, 676, rfl⟩
abbrev main_while0b_v545 : Ref sig .tc := ⟨.hbm, 677, rfl⟩
abbrev main_while0b_cst_123 : Ref sig .tc := ⟨.hbm, 678, rfl⟩
abbrev main_while0b_v546 : Ref sig .tc := ⟨.hbm, 679, rfl⟩
abbrev main_while0b_v547 : Ref sig .tc := ⟨.hbm, 680, rfl⟩
abbrev main_while0b_v548 : Ref sig .tc := ⟨.hbm, 681, rfl⟩
abbrev main_while0b_v549 : Ref sig .tc := ⟨.hbm, 682, rfl⟩
abbrev main_while0b_v550 : Ref sig .tc := ⟨.hbm, 683, rfl⟩
abbrev main_while0b_v551 : Ref sig .tc := ⟨.hbm, 684, rfl⟩
abbrev main_while0b_v552 : Ref sig .tc := ⟨.hbm, 685, rfl⟩
abbrev main_while0b_v553 : Ref sig .tc := ⟨.hbm, 686, rfl⟩
abbrev main_while0b_cst_124 : Ref sig .tc := ⟨.hbm, 687, rfl⟩
abbrev main_while0b_v554 : Ref sig .tc := ⟨.hbm, 688, rfl⟩
abbrev main_while0b_cst_125 : Ref sig .tc := ⟨.hbm, 689, rfl⟩
abbrev main_while0b_v555 : Ref sig .tc := ⟨.hbm, 690, rfl⟩
abbrev main_while0b_v556 : Ref sig .tc := ⟨.hbm, 691, rfl⟩
abbrev main_while0b_v557 : Ref sig .tc := ⟨.hbm, 692, rfl⟩
abbrev main_while0b_v558 : Ref sig .tc := ⟨.hbm, 693, rfl⟩
abbrev main_while0b_v559 : Ref sig .tc := ⟨.hbm, 694, rfl⟩
abbrev main_while0b_v560 : Ref sig .tc := ⟨.hbm, 695, rfl⟩
abbrev main_while0b_v561 : Ref sig .tc := ⟨.hbm, 696, rfl⟩
abbrev main_while0b_v562 : Ref sig .tc := ⟨.hbm, 697, rfl⟩
abbrev main_while0b_v563 : Ref sig .tc := ⟨.hbm, 698, rfl⟩
abbrev main_while0b_v564 : Ref sig .tc := ⟨.hbm, 699, rfl⟩
abbrev main_while0b_v565 : Ref sig .tc := ⟨.hbm, 700, rfl⟩
abbrev main_while0b_v566 : Ref sig .tc := ⟨.hbm, 701, rfl⟩
abbrev main_while0b_cst_126 : Ref sig .tc := ⟨.hbm, 702, rfl⟩
abbrev main_while0b_v567 : Ref sig .tc := ⟨.hbm, 703, rfl⟩
abbrev main_while0b_cst_127 : Ref sig .tc := ⟨.hbm, 704, rfl⟩
abbrev main_while0b_v568 : Ref sig .tc := ⟨.hbm, 705, rfl⟩
abbrev main_while0b_v569 : Ref sig .tc := ⟨.hbm, 706, rfl⟩
abbrev main_while0b_v570 : Ref sig .tc := ⟨.hbm, 707, rfl⟩
abbrev main_while0b_v571 : Ref sig .tc := ⟨.hbm, 708, rfl⟩
abbrev main_while0b_v572 : Ref sig .tc := ⟨.hbm, 709, rfl⟩
abbrev main_while0b_v573 : Ref sig .tc := ⟨.hbm, 710, rfl⟩
abbrev main_while0b_v574 : Ref sig .tc := ⟨.hbm, 711, rfl⟩
abbrev main_while0b_v575 : Ref sig .tc := ⟨.hbm, 712, rfl⟩
abbrev main_while0b_v576 : Ref sig .tc := ⟨.hbm, 713, rfl⟩
abbrev main_while0b_v577 : Ref sig .tc := ⟨.hbm, 714, rfl⟩
abbrev main_while0b_v578 : Ref sig .tc := ⟨.hbm, 715, rfl⟩
abbrev main_while0b_v579 : Ref sig .tc := ⟨.hbm, 716, rfl⟩
abbrev main_while0b_v580 : Ref sig .tc := ⟨.hbm, 717, rfl⟩
abbrev main_while0b_v581 : Ref sig .tc := ⟨.hbm, 718, rfl⟩
abbrev main_while0b_cst_128 : Ref sig .tc := ⟨.hbm, 719, rfl⟩
abbrev main_while0b_v582 : Ref sig .tc := ⟨.hbm, 720, rfl⟩
abbrev main_while0b_v583 : Ref sig .tc := ⟨.hbm, 721, rfl⟩
abbrev main_while0b_c_129 : Ref sig .tc := ⟨.hbm, 722, rfl⟩
abbrev main_while0b_v584 : Ref sig .tc := ⟨.hbm, 723, rfl⟩
abbrev main_while0b_v585 : Ref sig .tc := ⟨.hbm, 724, rfl⟩
abbrev main_while0b_c_130 : Ref sig .tc := ⟨.hbm, 725, rfl⟩
abbrev main_while0b_v586 : Ref sig .tc := ⟨.hbm, 726, rfl⟩
abbrev main_while0b_v587 : Ref sig .tc := ⟨.hbm, 727, rfl⟩
abbrev main_while0b_v588 : Ref sig .tc := ⟨.hbm, 728, rfl⟩
abbrev main_while0b_c_131 : Ref sig .tc := ⟨.hbm, 729, rfl⟩
abbrev main_while0b_v589 : Ref sig .tc := ⟨.hbm, 730, rfl⟩
abbrev main_while0b_v590 : Ref sig .tc := ⟨.hbm, 731, rfl⟩
abbrev main_while0b_c_132 : Ref sig .tc := ⟨.hbm, 732, rfl⟩
abbrev main_while0b_v591 : Ref sig .tc := ⟨.hbm, 733, rfl⟩
abbrev main_while0b_v592 : Ref sig .tc := ⟨.hbm, 734, rfl⟩
abbrev main_while0b_cst_133 : Ref sig .tc := ⟨.hbm, 735, rfl⟩
abbrev main_while0b_v593 : Ref sig .tc := ⟨.hbm, 736, rfl⟩
abbrev main_while0b_v594 : Ref sig .tc := ⟨.hbm, 737, rfl⟩
abbrev main_while0b_v595 : Ref sig .tc := ⟨.hbm, 738, rfl⟩
abbrev main_while0b_v596 : Ref sig .tc := ⟨.hbm, 739, rfl⟩
abbrev main_while0b_v597 : Ref sig .tc := ⟨.hbm, 740, rfl⟩
abbrev main_while0b_v598 : Ref sig .tc := ⟨.hbm, 741, rfl⟩
abbrev main_while0b_v599 : Ref sig .tc := ⟨.hbm, 742, rfl⟩
abbrev main_while0b_v600 : Ref sig .tc := ⟨.hbm, 743, rfl⟩
abbrev main_while0b_cst_134 : Ref sig .tc := ⟨.hbm, 744, rfl⟩
abbrev main_while0b_v601 : Ref sig .tc := ⟨.hbm, 745, rfl⟩
abbrev main_while0b_cst_135 : Ref sig .tc := ⟨.hbm, 746, rfl⟩
abbrev main_while0b_v602 : Ref sig .tc := ⟨.hbm, 747, rfl⟩
abbrev main_while0b_v603 : Ref sig .tc := ⟨.hbm, 748, rfl⟩
abbrev main_while0b_v604 : Ref sig .tc := ⟨.hbm, 749, rfl⟩
abbrev main_while0b_v605 : Ref sig .tc := ⟨.hbm, 750, rfl⟩
abbrev main_while0b_v606 : Ref sig .tc := ⟨.hbm, 751, rfl⟩
abbrev main_while0b_v607 : Ref sig .tc := ⟨.hbm, 752, rfl⟩
abbrev main_while0b_v608 : Ref sig .tc := ⟨.hbm, 753, rfl⟩
abbrev main_while0b_v609 : Ref sig .tc := ⟨.hbm, 754, rfl⟩
abbrev main_while0b_v610 : Ref sig .tc := ⟨.hbm, 755, rfl⟩
abbrev main_while0b_v611 : Ref sig .tc := ⟨.hbm, 756, rfl⟩
abbrev main_while0b_v612 : Ref sig .tc := ⟨.hbm, 757, rfl⟩
abbrev main_while0b_v613 : Ref sig .tc := ⟨.hbm, 758, rfl⟩
abbrev main_while0b_cst_136 : Ref sig .tc := ⟨.hbm, 759, rfl⟩
abbrev main_while0b_v614 : Ref sig .tc := ⟨.hbm, 760, rfl⟩
abbrev main_while0b_cst_137 : Ref sig .tc := ⟨.hbm, 761, rfl⟩
abbrev main_while0b_v615 : Ref sig .tc := ⟨.hbm, 762, rfl⟩
abbrev main_while0b_v616 : Ref sig .tc := ⟨.hbm, 763, rfl⟩
abbrev main_while0b_v617 : Ref sig .tc := ⟨.hbm, 764, rfl⟩
abbrev main_while0b_v618 : Ref sig .tc := ⟨.hbm, 765, rfl⟩
abbrev main_while0b_v619 : Ref sig .tc := ⟨.hbm, 766, rfl⟩
abbrev main_while0b_v620 : Ref sig .tc := ⟨.hbm, 767, rfl⟩
abbrev main_while0b_v621 : Ref sig .tc := ⟨.hbm, 768, rfl⟩
abbrev main_while0b_v622 : Ref sig .tc := ⟨.hbm, 769, rfl⟩
abbrev main_while0b_v623 : Ref sig .tc := ⟨.hbm, 770, rfl⟩
abbrev main_while0b_v624 : Ref sig .tc := ⟨.hbm, 771, rfl⟩
abbrev main_while0b_v625 : Ref sig .tc := ⟨.hbm, 772, rfl⟩
abbrev main_while0b_v626 : Ref sig .tc := ⟨.hbm, 773, rfl⟩
abbrev main_while0b_v627 : Ref sig .tc := ⟨.hbm, 774, rfl⟩
abbrev main_while0b_v628 : Ref sig .tc := ⟨.hbm, 775, rfl⟩
abbrev main_while0b_cst_138 : Ref sig .tc := ⟨.hbm, 776, rfl⟩
abbrev main_while0b_v629 : Ref sig .tc := ⟨.hbm, 777, rfl⟩
abbrev main_while0b_v630 : Ref sig .tc := ⟨.hbm, 778, rfl⟩
abbrev main_while0b_c_139 : Ref sig .tc := ⟨.hbm, 779, rfl⟩
abbrev main_while0b_v631 : Ref sig .tc := ⟨.hbm, 780, rfl⟩
abbrev main_while0b_v632 : Ref sig .tc := ⟨.hbm, 781, rfl⟩
abbrev main_while0b_c_140 : Ref sig .tc := ⟨.hbm, 782, rfl⟩
abbrev main_while0b_v633 : Ref sig .tc := ⟨.hbm, 783, rfl⟩
abbrev main_while0b_v634 : Ref sig .tc := ⟨.hbm, 784, rfl⟩
abbrev main_while0b_v635 : Ref sig .tc := ⟨.hbm, 785, rfl⟩
abbrev main_while0b_c_141 : Ref sig .tc := ⟨.hbm, 786, rfl⟩
abbrev main_while0b_v636 : Ref sig .tc := ⟨.hbm, 787, rfl⟩
abbrev main_while0b_v637 : Ref sig .tc := ⟨.hbm, 788, rfl⟩
abbrev main_while0b_c_142 : Ref sig .tc := ⟨.hbm, 789, rfl⟩
abbrev main_while0b_v638 : Ref sig .tc := ⟨.hbm, 790, rfl⟩
abbrev main_while0b_v639 : Ref sig .tc := ⟨.hbm, 791, rfl⟩
abbrev main_while0b_cst_143 : Ref sig .tc := ⟨.hbm, 792, rfl⟩
abbrev main_while0b_v640 : Ref sig .tc := ⟨.hbm, 793, rfl⟩
abbrev main_while0b_v641 : Ref sig .tc := ⟨.hbm, 794, rfl⟩
abbrev main_while0b_v642 : Ref sig .tc := ⟨.hbm, 795, rfl⟩
abbrev main_while0b_v643 : Ref sig .tc := ⟨.hbm, 796, rfl⟩
abbrev main_while0b_v644 : Ref sig .tc := ⟨.hbm, 797, rfl⟩
abbrev main_while0b_v645 : Ref sig .tc := ⟨.hbm, 798, rfl⟩
abbrev main_while0b_v646 : Ref sig .tc := ⟨.hbm, 799, rfl⟩
abbrev main_while0b_v647 : Ref sig .tc := ⟨.hbm, 800, rfl⟩
abbrev main_while0b_cst_144 : Ref sig .tc := ⟨.hbm, 801, rfl⟩
abbrev main_while0b_v648 : Ref sig .tc := ⟨.hbm, 802, rfl⟩
abbrev main_while0b_cst_145 : Ref sig .tc := ⟨.hbm, 803, rfl⟩
abbrev main_while0b_v649 : Ref sig .tc := ⟨.hbm, 804, rfl⟩
abbrev main_while0b_v650 : Ref sig .tc := ⟨.hbm, 805, rfl⟩
abbrev main_while0b_v651 : Ref sig .tc := ⟨.hbm, 806, rfl⟩
abbrev main_while0b_v652 : Ref sig .tc := ⟨.hbm, 807, rfl⟩
abbrev main_while0b_v653 : Ref sig .tc := ⟨.hbm, 808, rfl⟩
abbrev main_while0b_v654 : Ref sig .tc := ⟨.hbm, 809, rfl⟩
abbrev main_while0b_v655 : Ref sig .tc := ⟨.hbm, 810, rfl⟩
abbrev main_while0b_v656 : Ref sig .tc := ⟨.hbm, 811, rfl⟩
abbrev main_while0b_v657 : Ref sig .tc := ⟨.hbm, 812, rfl⟩
abbrev main_while0b_v658 : Ref sig .tc := ⟨.hbm, 813, rfl⟩
abbrev main_while0b_v659 : Ref sig .tc := ⟨.hbm, 814, rfl⟩
abbrev main_while0b_v660 : Ref sig .tc := ⟨.hbm, 815, rfl⟩
abbrev main_while0b_cst_146 : Ref sig .tc := ⟨.hbm, 816, rfl⟩
abbrev main_while0b_v661 : Ref sig .tc := ⟨.hbm, 817, rfl⟩
abbrev main_while0b_cst_147 : Ref sig .tc := ⟨.hbm, 818, rfl⟩
abbrev main_while0b_v662 : Ref sig .tc := ⟨.hbm, 819, rfl⟩
abbrev main_while0b_v663 : Ref sig .tc := ⟨.hbm, 820, rfl⟩
abbrev main_while0b_v664 : Ref sig .tc := ⟨.hbm, 821, rfl⟩
abbrev main_while0b_v665 : Ref sig .tc := ⟨.hbm, 822, rfl⟩
abbrev main_while0b_v666 : Ref sig .tc := ⟨.hbm, 823, rfl⟩
abbrev main_while0b_v667 : Ref sig .tc := ⟨.hbm, 824, rfl⟩
abbrev main_while0b_v668 : Ref sig .tc := ⟨.hbm, 825, rfl⟩
abbrev main_while0b_v669 : Ref sig .tc := ⟨.hbm, 826, rfl⟩
abbrev main_while0b_v670 : Ref sig .tc := ⟨.hbm, 827, rfl⟩
abbrev main_while0b_v671 : Ref sig .tc := ⟨.hbm, 828, rfl⟩
abbrev main_while0b_v672 : Ref sig .tc := ⟨.hbm, 829, rfl⟩
abbrev main_while0b_v673 : Ref sig .tc := ⟨.hbm, 830, rfl⟩
abbrev main_while0b_v674 : Ref sig .tc := ⟨.hbm, 831, rfl⟩
abbrev main_while0b_v675 : Ref sig .tc := ⟨.hbm, 832, rfl⟩
abbrev main_while0b_cst_148 : Ref sig .tc := ⟨.hbm, 833, rfl⟩
abbrev main_while0b_v676 : Ref sig .tc := ⟨.hbm, 834, rfl⟩
abbrev main_while0b_v677 : Ref sig .tc := ⟨.hbm, 835, rfl⟩
abbrev main_while0b_c_149 : Ref sig .tc := ⟨.hbm, 836, rfl⟩
abbrev main_while0b_v678 : Ref sig .tc := ⟨.hbm, 837, rfl⟩
abbrev main_while0b_v679 : Ref sig .tc := ⟨.hbm, 838, rfl⟩
abbrev main_while0b_c_150 : Ref sig .tc := ⟨.hbm, 839, rfl⟩
abbrev main_while0b_v680 : Ref sig .tc := ⟨.hbm, 840, rfl⟩
abbrev main_while0b_v681 : Ref sig .tc := ⟨.hbm, 841, rfl⟩
abbrev main_while0b_v682 : Ref sig .tc := ⟨.hbm, 842, rfl⟩
abbrev main_while0b_c_151 : Ref sig .tc := ⟨.hbm, 843, rfl⟩
abbrev main_while0b_v683 : Ref sig .tc := ⟨.hbm, 844, rfl⟩
abbrev main_while0b_v684 : Ref sig .tc := ⟨.hbm, 845, rfl⟩
abbrev main_while0b_c_152 : Ref sig .tc := ⟨.hbm, 846, rfl⟩
abbrev main_while0b_v685 : Ref sig .tc := ⟨.hbm, 847, rfl⟩
abbrev main_while0b_v686 : Ref sig .tc := ⟨.hbm, 848, rfl⟩
abbrev main_while0b_cst_153 : Ref sig .tc := ⟨.hbm, 849, rfl⟩
abbrev main_while0b_v687 : Ref sig .tc := ⟨.hbm, 850, rfl⟩
abbrev main_while0b_v688 : Ref sig .tc := ⟨.hbm, 851, rfl⟩
abbrev main_while0b_v689 : Ref sig .tc := ⟨.hbm, 852, rfl⟩
abbrev main_while0b_v690 : Ref sig .tc := ⟨.hbm, 853, rfl⟩
abbrev main_while0b_v691 : Ref sig .tc := ⟨.hbm, 854, rfl⟩
abbrev main_while0b_v692 : Ref sig .tc := ⟨.hbm, 855, rfl⟩
abbrev main_while0b_v693 : Ref sig .tc := ⟨.hbm, 856, rfl⟩
abbrev main_while0b_v694 : Ref sig .tc := ⟨.hbm, 857, rfl⟩
abbrev main_while0b_cst_154 : Ref sig .tc := ⟨.hbm, 858, rfl⟩
abbrev main_while0b_v695 : Ref sig .tc := ⟨.hbm, 859, rfl⟩
abbrev main_while0b_cst_155 : Ref sig .tc := ⟨.hbm, 860, rfl⟩
abbrev main_while0b_v696 : Ref sig .tc := ⟨.hbm, 861, rfl⟩
abbrev main_while0b_v697 : Ref sig .tc := ⟨.hbm, 862, rfl⟩
abbrev main_while0b_v698 : Ref sig .tc := ⟨.hbm, 863, rfl⟩
abbrev main_while0b_v699 : Ref sig .tc := ⟨.hbm, 864, rfl⟩
abbrev main_while0b_v700 : Ref sig .tc := ⟨.hbm, 865, rfl⟩
abbrev main_while0b_v701 : Ref sig .tc := ⟨.hbm, 866, rfl⟩
abbrev main_while0b_v702 : Ref sig .tc := ⟨.hbm, 867, rfl⟩
abbrev main_while0b_v703 : Ref sig .tc := ⟨.hbm, 868, rfl⟩
abbrev main_while0b_v704 : Ref sig .tc := ⟨.hbm, 869, rfl⟩
abbrev main_while0b_v705 : Ref sig .tc := ⟨.hbm, 870, rfl⟩
abbrev main_while0b_v706 : Ref sig .tc := ⟨.hbm, 871, rfl⟩
abbrev main_while0b_v707 : Ref sig .tc := ⟨.hbm, 872, rfl⟩
abbrev main_while0b_cst_156 : Ref sig .tc := ⟨.hbm, 873, rfl⟩
abbrev main_while0b_v708 : Ref sig .tc := ⟨.hbm, 874, rfl⟩
abbrev main_while0b_cst_157 : Ref sig .tc := ⟨.hbm, 875, rfl⟩
abbrev main_while0b_v709 : Ref sig .tc := ⟨.hbm, 876, rfl⟩
abbrev main_while0b_v710 : Ref sig .tc := ⟨.hbm, 877, rfl⟩
abbrev main_while0b_v711 : Ref sig .tc := ⟨.hbm, 878, rfl⟩
abbrev main_while0b_v712 : Ref sig .tc := ⟨.hbm, 879, rfl⟩
abbrev main_while0b_v713 : Ref sig .tc := ⟨.hbm, 880, rfl⟩
abbrev main_while0b_v714 : Ref sig .tc := ⟨.hbm, 881, rfl⟩
abbrev main_while0b_v715 : Ref sig .tc := ⟨.hbm, 882, rfl⟩
abbrev main_while0b_v716 : Ref sig .tc := ⟨.hbm, 883, rfl⟩
abbrev main_while0b_v717 : Ref sig .tc := ⟨.hbm, 884, rfl⟩
abbrev main_while0b_v718 : Ref sig .tc := ⟨.hbm, 885, rfl⟩
abbrev main_while0b_v719 : Ref sig .tc := ⟨.hbm, 886, rfl⟩
abbrev main_while0b_v720 : Ref sig .tc := ⟨.hbm, 887, rfl⟩
abbrev main_while0b_v721 : Ref sig .tc := ⟨.hbm, 888, rfl⟩
abbrev main_while0b_v722 : Ref sig .tc := ⟨.hbm, 889, rfl⟩
abbrev main_while0b_cst_158 : Ref sig .tc := ⟨.hbm, 890, rfl⟩
abbrev main_while0b_v723 : Ref sig .tc := ⟨.hbm, 891, rfl⟩
abbrev main_while0b_v724 : Ref sig .tc := ⟨.hbm, 892, rfl⟩
abbrev main_while0b_c_159 : Ref sig .tc := ⟨.hbm, 893, rfl⟩
abbrev main_while0b_v725 : Ref sig .tc := ⟨.hbm, 894, rfl⟩
abbrev main_while0b_v726 : Ref sig .tc := ⟨.hbm, 895, rfl⟩
abbrev main_while0b_c_160 : Ref sig .tc := ⟨.hbm, 896, rfl⟩
abbrev main_while0b_v727 : Ref sig .tc := ⟨.hbm, 897, rfl⟩
abbrev main_while0b_v728 : Ref sig .tc := ⟨.hbm, 898, rfl⟩
abbrev main_while0b_v729 : Ref sig .tc := ⟨.hbm, 899, rfl⟩
abbrev main_while0b_c_161 : Ref sig .tc := ⟨.hbm, 900, rfl⟩
abbrev main_while0b_v730 : Ref sig .tc := ⟨.hbm, 901, rfl⟩
abbrev main_while0b_v731 : Ref sig .tc := ⟨.hbm, 902, rfl⟩
abbrev main_while0b_c_162 : Ref sig .tc := ⟨.hbm, 903, rfl⟩
abbrev main_while0b_v732 : Ref sig .tc := ⟨.hbm, 904, rfl⟩
abbrev main_while0b_v733 : Ref sig .tc := ⟨.hbm, 905, rfl⟩
abbrev main_while0b_cst_163 : Ref sig .tc := ⟨.hbm, 906, rfl⟩
abbrev main_while0b_v734 : Ref sig .tc := ⟨.hbm, 907, rfl⟩
abbrev main_while0b_v735 : Ref sig .tc := ⟨.hbm, 908, rfl⟩
abbrev main_while0b_v736 : Ref sig .tc := ⟨.hbm, 909, rfl⟩
abbrev main_while0b_v737 : Ref sig .tc := ⟨.hbm, 910, rfl⟩
abbrev main_while0b_v738 : Ref sig .tc := ⟨.hbm, 911, rfl⟩
abbrev main_while0b_v739 : Ref sig .tc := ⟨.hbm, 912, rfl⟩
abbrev main_while0b_v740 : Ref sig .tc := ⟨.hbm, 913, rfl⟩
abbrev main_while0b_v741 : Ref sig .tc := ⟨.hbm, 914, rfl⟩
abbrev main_while0b_cst_164 : Ref sig .tc := ⟨.hbm, 915, rfl⟩
abbrev main_while0b_v742 : Ref sig .tc := ⟨.hbm, 916, rfl⟩
abbrev main_while0b_cst_165 : Ref sig .tc := ⟨.hbm, 917, rfl⟩
abbrev main_while0b_v743 : Ref sig .tc := ⟨.hbm, 918, rfl⟩
abbrev main_while0b_v744 : Ref sig .tc := ⟨.hbm, 919, rfl⟩
abbrev main_while0b_v745 : Ref sig .tc := ⟨.hbm, 920, rfl⟩
abbrev main_while0b_v746 : Ref sig .tc := ⟨.hbm, 921, rfl⟩
abbrev main_while0b_v747 : Ref sig .tc := ⟨.hbm, 922, rfl⟩
abbrev main_while0b_v748 : Ref sig .tc := ⟨.hbm, 923, rfl⟩
abbrev main_while0b_v749 : Ref sig .tc := ⟨.hbm, 924, rfl⟩
abbrev main_while0b_v750 : Ref sig .tc := ⟨.hbm, 925, rfl⟩
abbrev main_while0b_v751 : Ref sig .tc := ⟨.hbm, 926, rfl⟩
abbrev main_while0b_v752 : Ref sig .tc := ⟨.hbm, 927, rfl⟩
abbrev main_while0b_v753 : Ref sig .tc := ⟨.hbm, 928, rfl⟩
abbrev main_while0b_v754 : Ref sig .tc := ⟨.hbm, 929, rfl⟩
abbrev main_while0b_cst_166 : Ref sig .tc := ⟨.hbm, 930, rfl⟩
abbrev main_while0b_v755 : Ref sig .tc := ⟨.hbm, 931, rfl⟩
abbrev main_while0b_cst_167 : Ref sig .tc := ⟨.hbm, 932, rfl⟩
abbrev main_while0b_v756 : Ref sig .tc := ⟨.hbm, 933, rfl⟩
abbrev main_while0b_v757 : Ref sig .tc := ⟨.hbm, 934, rfl⟩
abbrev main_while0b_v758 : Ref sig .tc := ⟨.hbm, 935, rfl⟩
abbrev main_while0b_v759 : Ref sig .tc := ⟨.hbm, 936, rfl⟩
abbrev main_while0b_v760 : Ref sig .tc := ⟨.hbm, 937, rfl⟩
abbrev main_while0b_v761 : Ref sig .tc := ⟨.hbm, 938, rfl⟩
abbrev main_while0b_v762 : Ref sig .tc := ⟨.hbm, 939, rfl⟩
abbrev main_while0b_v763 : Ref sig .tc := ⟨.hbm, 940, rfl⟩
abbrev main_while0b_v764 : Ref sig .tc := ⟨.hbm, 941, rfl⟩
abbrev main_while0b_v765 : Ref sig .tc := ⟨.hbm, 942, rfl⟩
abbrev main_while0b_v766 : Ref sig .tc := ⟨.hbm, 943, rfl⟩
abbrev main_while0b_v767 : Ref sig .tc := ⟨.hbm, 944, rfl⟩
abbrev main_while0b_v768 : Ref sig .tc := ⟨.hbm, 945, rfl⟩
abbrev main_while0b_v769 : Ref sig .tc := ⟨.hbm, 946, rfl⟩
abbrev main_while0b_cst_168 : Ref sig .tc := ⟨.hbm, 947, rfl⟩
abbrev main_while0b_v770 : Ref sig .tc := ⟨.hbm, 948, rfl⟩
abbrev main_while0b_v771 : Ref sig .tc := ⟨.hbm, 949, rfl⟩
abbrev main_while0b_c_169 : Ref sig .tc := ⟨.hbm, 950, rfl⟩
abbrev main_while0b_v772 : Ref sig .tc := ⟨.hbm, 951, rfl⟩
abbrev main_while0b_v773 : Ref sig .tc := ⟨.hbm, 952, rfl⟩
abbrev main_while0b_c_170 : Ref sig .tc := ⟨.hbm, 953, rfl⟩
abbrev main_while0b_v774 : Ref sig .tc := ⟨.hbm, 954, rfl⟩
abbrev main_while0b_v775 : Ref sig .tc := ⟨.hbm, 955, rfl⟩
abbrev main_while0b_v776 : Ref sig .tc := ⟨.hbm, 956, rfl⟩
abbrev main_while0b_c_171 : Ref sig .tc := ⟨.hbm, 957, rfl⟩
abbrev main_while0b_v777 : Ref sig .tc := ⟨.hbm, 958, rfl⟩
abbrev main_while0b_v778 : Ref sig .tc := ⟨.hbm, 959, rfl⟩
abbrev main_while0b_c_172 : Ref sig .tc := ⟨.hbm, 960, rfl⟩
abbrev main_while0b_v779 : Ref sig .tc := ⟨.hbm, 961, rfl⟩
abbrev main_while0b_v780 : Ref sig .tc := ⟨.hbm, 962, rfl⟩
abbrev main_while0b_cst_173 : Ref sig .tc := ⟨.hbm, 963, rfl⟩
abbrev main_while0b_v781 : Ref sig .tc := ⟨.hbm, 964, rfl⟩
abbrev main_while0b_v782 : Ref sig .tc := ⟨.hbm, 965, rfl⟩
abbrev main_while0b_v783 : Ref sig .tc := ⟨.hbm, 966, rfl⟩
abbrev main_while0b_v784 : Ref sig .tc := ⟨.hbm, 967, rfl⟩
abbrev main_while0b_v785 : Ref sig .tc := ⟨.hbm, 968, rfl⟩
abbrev main_while0b_v786 : Ref sig .tc := ⟨.hbm, 969, rfl⟩
abbrev main_while0b_v787 : Ref sig .tc := ⟨.hbm, 970, rfl⟩
abbrev main_while0b_v788 : Ref sig .tc := ⟨.hbm, 971, rfl⟩
abbrev main_while0b_cst_174 : Ref sig .tc := ⟨.hbm, 972, rfl⟩
abbrev main_while0b_v789 : Ref sig .tc := ⟨.hbm, 973, rfl⟩
abbrev main_while0b_cst_175 : Ref sig .tc := ⟨.hbm, 974, rfl⟩
abbrev main_while0b_v790 : Ref sig .tc := ⟨.hbm, 975, rfl⟩
abbrev main_while0b_v791 : Ref sig .tc := ⟨.hbm, 976, rfl⟩
abbrev main_while0b_v792 : Ref sig .tc := ⟨.hbm, 977, rfl⟩
abbrev main_while0b_v793 : Ref sig .tc := ⟨.hbm, 978, rfl⟩
abbrev main_while0b_v794 : Ref sig .tc := ⟨.hbm, 979, rfl⟩
abbrev main_while0b_v795 : Ref sig .tc := ⟨.hbm, 980, rfl⟩
abbrev main_while0b_v796 : Ref sig .tc := ⟨.hbm, 981, rfl⟩
abbrev main_while0b_v797 : Ref sig .tc := ⟨.hbm, 982, rfl⟩
abbrev main_while0b_v798 : Ref sig .tc := ⟨.hbm, 983, rfl⟩
abbrev main_while0b_v799 : Ref sig .tc := ⟨.hbm, 984, rfl⟩
abbrev main_while0b_v800 : Ref sig .tc := ⟨.hbm, 985, rfl⟩
abbrev main_while0b_v801 : Ref sig .tc := ⟨.hbm, 986, rfl⟩
abbrev main_while0b_cst_176 : Ref sig .tc := ⟨.hbm, 987, rfl⟩
abbrev main_while0b_v802 : Ref sig .tc := ⟨.hbm, 988, rfl⟩
abbrev main_while0b_cst_177 : Ref sig .tc := ⟨.hbm, 989, rfl⟩
abbrev main_while0b_v803 : Ref sig .tc := ⟨.hbm, 990, rfl⟩
abbrev main_while0b_v804 : Ref sig .tc := ⟨.hbm, 991, rfl⟩
abbrev main_while0b_v805 : Ref sig .tc := ⟨.hbm, 992, rfl⟩
abbrev main_while0b_v806 : Ref sig .tc := ⟨.hbm, 993, rfl⟩
abbrev main_while0b_v807 : Ref sig .tc := ⟨.hbm, 994, rfl⟩
abbrev main_while0b_v808 : Ref sig .tc := ⟨.hbm, 995, rfl⟩
abbrev main_while0b_v809 : Ref sig .tc := ⟨.hbm, 996, rfl⟩
abbrev main_while0b_v810 : Ref sig .tc := ⟨.hbm, 997, rfl⟩
abbrev main_while0b_v811 : Ref sig .tc := ⟨.hbm, 998, rfl⟩
abbrev main_while0b_v812 : Ref sig .tc := ⟨.hbm, 999, rfl⟩
abbrev main_while0b_v813 : Ref sig .tc := ⟨.hbm, 1000, rfl⟩
abbrev main_while0b_v814 : Ref sig .tc := ⟨.hbm, 1001, rfl⟩
abbrev main_while0b_v815 : Ref sig .tc := ⟨.hbm, 1002, rfl⟩
abbrev main_while0b_v816 : Ref sig .tc := ⟨.hbm, 1003, rfl⟩
abbrev main_while0b_cst_178 : Ref sig .tc := ⟨.hbm, 1004, rfl⟩
abbrev main_while0b_v817 : Ref sig .tc := ⟨.hbm, 1005, rfl⟩
abbrev main_while0b_v818 : Ref sig .tc := ⟨.hbm, 1006, rfl⟩
abbrev main_while0b_c_179 : Ref sig .tc := ⟨.hbm, 1007, rfl⟩
abbrev main_while0b_v819 : Ref sig .tc := ⟨.hbm, 1008, rfl⟩
abbrev main_while0b_v820 : Ref sig .tc := ⟨.hbm, 1009, rfl⟩
abbrev main_while0b_c_180 : Ref sig .tc := ⟨.hbm, 1010, rfl⟩
abbrev main_while0b_v821 : Ref sig .tc := ⟨.hbm, 1011, rfl⟩
abbrev main_while0b_v822 : Ref sig .tc := ⟨.hbm, 1012, rfl⟩
abbrev main_while0b_v823 : Ref sig .tc := ⟨.hbm, 1013, rfl⟩
abbrev main_while0b_c_181 : Ref sig .tc := ⟨.hbm, 1014, rfl⟩
abbrev main_while0b_v824 : Ref sig .tc := ⟨.hbm, 1015, rfl⟩
abbrev main_while0b_v825 : Ref sig .tc := ⟨.hbm, 1016, rfl⟩
abbrev main_while0b_c_182 : Ref sig .tc := ⟨.hbm, 1017, rfl⟩
abbrev main_while0b_v826 : Ref sig .tc := ⟨.hbm, 1018, rfl⟩
abbrev main_while0b_v827 : Ref sig .tc := ⟨.hbm, 1019, rfl⟩
abbrev main_while0b_cst_183 : Ref sig .tc := ⟨.hbm, 1020, rfl⟩
abbrev main_while0b_v828 : Ref sig .tc := ⟨.hbm, 1021, rfl⟩
abbrev main_while0b_v829 : Ref sig .tc := ⟨.hbm, 1022, rfl⟩
abbrev main_while0b_v830 : Ref sig .tc := ⟨.hbm, 1023, rfl⟩
abbrev main_while0b_v831 : Ref sig .tc := ⟨.hbm, 1024, rfl⟩
abbrev main_while0b_v832 : Ref sig .tc := ⟨.hbm, 1025, rfl⟩
abbrev main_while0b_v833 : Ref sig .tc := ⟨.hbm, 1026, rfl⟩
abbrev main_while0b_v834 : Ref sig .tc := ⟨.hbm, 1027, rfl⟩
abbrev main_while0b_v835 : Ref sig .tc := ⟨.hbm, 1028, rfl⟩
abbrev main_while0b_cst_184 : Ref sig .tc := ⟨.hbm, 1029, rfl⟩
abbrev main_while0b_v836 : Ref sig .tc := ⟨.hbm, 1030, rfl⟩
abbrev main_while0b_cst_185 : Ref sig .tc := ⟨.hbm, 1031, rfl⟩
abbrev main_while0b_v837 : Ref sig .tc := ⟨.hbm, 1032, rfl⟩
abbrev main_while0b_v838 : Ref sig .tc := ⟨.hbm, 1033, rfl⟩
abbrev main_while0b_v839 : Ref sig .tc := ⟨.hbm, 1034, rfl⟩
abbrev main_while0b_v840 : Ref sig .tc := ⟨.hbm, 1035, rfl⟩
abbrev main_while0b_v841 : Ref sig .tc := ⟨.hbm, 1036, rfl⟩
abbrev main_while0b_v842 : Ref sig .tc := ⟨.hbm, 1037, rfl⟩
abbrev main_while0b_v843 : Ref sig .tc := ⟨.hbm, 1038, rfl⟩
abbrev main_while0b_v844 : Ref sig .tc := ⟨.hbm, 1039, rfl⟩
abbrev main_while0b_v845 : Ref sig .tc := ⟨.hbm, 1040, rfl⟩
abbrev main_while0b_v846 : Ref sig .tc := ⟨.hbm, 1041, rfl⟩
abbrev main_while0b_v847 : Ref sig .tc := ⟨.hbm, 1042, rfl⟩
abbrev main_while0b_v848 : Ref sig .tc := ⟨.hbm, 1043, rfl⟩
abbrev main_while0b_cst_186 : Ref sig .tc := ⟨.hbm, 1044, rfl⟩
abbrev main_while0b_v849 : Ref sig .tc := ⟨.hbm, 1045, rfl⟩
abbrev main_while0b_cst_187 : Ref sig .tc := ⟨.hbm, 1046, rfl⟩
abbrev main_while0b_v850 : Ref sig .tc := ⟨.hbm, 1047, rfl⟩
abbrev main_while0b_v851 : Ref sig .tc := ⟨.hbm, 1048, rfl⟩
abbrev main_while0b_v852 : Ref sig .tc := ⟨.hbm, 1049, rfl⟩
abbrev main_while0b_v853 : Ref sig .tc := ⟨.hbm, 1050, rfl⟩
abbrev main_while0b_v854 : Ref sig .tc := ⟨.hbm, 1051, rfl⟩
abbrev main_while0b_v855 : Ref sig .tc := ⟨.hbm, 1052, rfl⟩
abbrev main_while0b_v856 : Ref sig .tc := ⟨.hbm, 1053, rfl⟩
abbrev main_while0b_v857 : Ref sig .tc := ⟨.hbm, 1054, rfl⟩
abbrev main_while0b_v858 : Ref sig .tc := ⟨.hbm, 1055, rfl⟩
abbrev main_while0b_v859 : Ref sig .tc := ⟨.hbm, 1056, rfl⟩
abbrev main_while0b_v860 : Ref sig .tc := ⟨.hbm, 1057, rfl⟩
abbrev main_while0b_v861 : Ref sig .tc := ⟨.hbm, 1058, rfl⟩
abbrev main_while0b_v862 : Ref sig .tc := ⟨.hbm, 1059, rfl⟩
abbrev main_while0b_v863 : Ref sig .tc := ⟨.hbm, 1060, rfl⟩
abbrev main_while0b_cst_188 : Ref sig .tc := ⟨.hbm, 1061, rfl⟩
abbrev main_while0b_v864 : Ref sig .tc := ⟨.hbm, 1062, rfl⟩
abbrev main_while0b_v865 : Ref sig .tc := ⟨.hbm, 1063, rfl⟩
abbrev main_while0b_c_189 : Ref sig .tc := ⟨.hbm, 1064, rfl⟩
abbrev main_while0b_v866 : Ref sig .tc := ⟨.hbm, 1065, rfl⟩
abbrev main_while0b_v867 : Ref sig .tc := ⟨.hbm, 1066, rfl⟩
abbrev main_while0b_c_190 : Ref sig .tc := ⟨.hbm, 1067, rfl⟩
abbrev main_while0b_v868 : Ref sig .tc := ⟨.hbm, 1068, rfl⟩
abbrev main_while0b_v869 : Ref sig .tc := ⟨.hbm, 1069, rfl⟩
abbrev main_while0b_v870 : Ref sig .tc := ⟨.hbm, 1070, rfl⟩
abbrev main_while0b_c_191 : Ref sig .tc := ⟨.hbm, 1071, rfl⟩
abbrev main_while0b_v871 : Ref sig .tc := ⟨.hbm, 1072, rfl⟩
abbrev main_while0b_v872 : Ref sig .tc := ⟨.hbm, 1073, rfl⟩
abbrev main_while0b_c_192 : Ref sig .tc := ⟨.hbm, 1074, rfl⟩
abbrev main_while0b_v873 : Ref sig .tc := ⟨.hbm, 1075, rfl⟩
abbrev main_while0b_v874 : Ref sig .tc := ⟨.hbm, 1076, rfl⟩
abbrev main_while0b_cst_193 : Ref sig .tc := ⟨.hbm, 1077, rfl⟩
abbrev main_while0b_v875 : Ref sig .tc := ⟨.hbm, 1078, rfl⟩
abbrev main_while0b_v876 : Ref sig .tc := ⟨.hbm, 1079, rfl⟩
abbrev main_while0b_v877 : Ref sig .tc := ⟨.hbm, 1080, rfl⟩
abbrev main_while0b_v878 : Ref sig .tc := ⟨.hbm, 1081, rfl⟩
abbrev main_while0b_v879 : Ref sig .tc := ⟨.hbm, 1082, rfl⟩
abbrev main_while0b_v880 : Ref sig .tc := ⟨.hbm, 1083, rfl⟩
abbrev main_while0b_v881 : Ref sig .tc := ⟨.hbm, 1084, rfl⟩
abbrev main_while0b_v882 : Ref sig .tc := ⟨.hbm, 1085, rfl⟩
abbrev main_while0b_cst_194 : Ref sig .tc := ⟨.hbm, 1086, rfl⟩
abbrev main_while0b_v883 : Ref sig .tc := ⟨.hbm, 1087, rfl⟩
abbrev main_while0b_cst_195 : Ref sig .tc := ⟨.hbm, 1088, rfl⟩
abbrev main_while0b_v884 : Ref sig .tc := ⟨.hbm, 1089, rfl⟩
abbrev main_while0b_v885 : Ref sig .tc := ⟨.hbm, 1090, rfl⟩
abbrev main_while0b_v886 : Ref sig .tc := ⟨.hbm, 1091, rfl⟩
abbrev main_while0b_v887 : Ref sig .tc := ⟨.hbm, 1092, rfl⟩
abbrev main_while0b_v888 : Ref sig .tc := ⟨.hbm, 1093, rfl⟩
abbrev main_while0b_v889 : Ref sig .tc := ⟨.hbm, 1094, rfl⟩
abbrev main_while0b_v890 : Ref sig .tc := ⟨.hbm, 1095, rfl⟩
abbrev main_while0b_v891 : Ref sig .tc := ⟨.hbm, 1096, rfl⟩
abbrev main_while0b_v892 : Ref sig .tc := ⟨.hbm, 1097, rfl⟩
abbrev main_while0b_v893 : Ref sig .tc := ⟨.hbm, 1098, rfl⟩
abbrev main_while0b_v894 : Ref sig .tc := ⟨.hbm, 1099, rfl⟩
abbrev main_while0b_v895 : Ref sig .tc := ⟨.hbm, 1100, rfl⟩
abbrev main_while0b_cst_196 : Ref sig .tc := ⟨.hbm, 1101, rfl⟩
abbrev main_while0b_v896 : Ref sig .tc := ⟨.hbm, 1102, rfl⟩
abbrev main_while0b_cst_197 : Ref sig .tc := ⟨.hbm, 1103, rfl⟩
abbrev main_while0b_v897 : Ref sig .tc := ⟨.hbm, 1104, rfl⟩
abbrev main_while0b_v898 : Ref sig .tc := ⟨.hbm, 1105, rfl⟩
abbrev main_while0b_v899 : Ref sig .tc := ⟨.hbm, 1106, rfl⟩
abbrev main_while0b_v900 : Ref sig .tc := ⟨.hbm, 1107, rfl⟩
abbrev main_while0b_v901 : Ref sig .tc := ⟨.hbm, 1108, rfl⟩
abbrev main_while0b_v902 : Ref sig .tc := ⟨.hbm, 1109, rfl⟩
abbrev main_while0b_v903 : Ref sig .tc := ⟨.hbm, 1110, rfl⟩
abbrev main_while0b_v904 : Ref sig .tc := ⟨.hbm, 1111, rfl⟩
abbrev main_while0b_v905 : Ref sig .tc := ⟨.hbm, 1112, rfl⟩
abbrev main_while0b_v906 : Ref sig .tc := ⟨.hbm, 1113, rfl⟩
abbrev main_while0b_v907 : Ref sig .tc := ⟨.hbm, 1114, rfl⟩
abbrev main_while0b_v908 : Ref sig .tc := ⟨.hbm, 1115, rfl⟩
abbrev main_while0b_v909 : Ref sig .tc := ⟨.hbm, 1116, rfl⟩
abbrev main_while0b_v910 : Ref sig .tc := ⟨.hbm, 1117, rfl⟩
abbrev main_while0b_cst_198 : Ref sig .tc := ⟨.hbm, 1118, rfl⟩
abbrev main_while0b_v911 : Ref sig .tc := ⟨.hbm, 1119, rfl⟩
abbrev main_while0b_v912 : Ref sig .tc := ⟨.hbm, 1120, rfl⟩
abbrev main_while0b_c_199 : Ref sig .tc := ⟨.hbm, 1121, rfl⟩
abbrev main_while0b_v913 : Ref sig .tc := ⟨.hbm, 1122, rfl⟩
abbrev main_while0b_v914 : Ref sig .tc := ⟨.hbm, 1123, rfl⟩
abbrev main_while0b_c_200 : Ref sig .tc := ⟨.hbm, 1124, rfl⟩
abbrev main_while0b_v915 : Ref sig .tc := ⟨.hbm, 1125, rfl⟩
abbrev main_while0b_v916 : Ref sig .tc := ⟨.hbm, 1126, rfl⟩
abbrev main_while0b_v917 : Ref sig .tc := ⟨.hbm, 1127, rfl⟩
abbrev main_while0b_c_201 : Ref sig .tc := ⟨.hbm, 1128, rfl⟩
abbrev main_while0b_v918 : Ref sig .tc := ⟨.hbm, 1129, rfl⟩
abbrev main_while0b_v919 : Ref sig .tc := ⟨.hbm, 1130, rfl⟩
abbrev main_while0b_c_202 : Ref sig .tc := ⟨.hbm, 1131, rfl⟩
abbrev main_while0b_v920 : Ref sig .tc := ⟨.hbm, 1132, rfl⟩
abbrev main_while0b_v921 : Ref sig .tc := ⟨.hbm, 1133, rfl⟩
abbrev main_while0b_cst_203 : Ref sig .tc := ⟨.hbm, 1134, rfl⟩
abbrev main_while0b_v922 : Ref sig .tc := ⟨.hbm, 1135, rfl⟩
abbrev main_while0b_v923 : Ref sig .tc := ⟨.hbm, 1136, rfl⟩
abbrev main_while0b_v924 : Ref sig .tc := ⟨.hbm, 1137, rfl⟩
abbrev main_while0b_v925 : Ref sig .tc := ⟨.hbm, 1138, rfl⟩
abbrev main_while0b_v926 : Ref sig .tc := ⟨.hbm, 1139, rfl⟩
abbrev main_while0b_v927 : Ref sig .tc := ⟨.hbm, 1140, rfl⟩
abbrev main_while0b_v928 : Ref sig .tc := ⟨.hbm, 1141, rfl⟩
abbrev main_while0b_v929 : Ref sig .tc := ⟨.hbm, 1142, rfl⟩
abbrev main_while0b_cst_204 : Ref sig .tc := ⟨.hbm, 1143, rfl⟩
abbrev main_while0b_v930 : Ref sig .tc := ⟨.hbm, 1144, rfl⟩
abbrev main_while0b_cst_205 : Ref sig .tc := ⟨.hbm, 1145, rfl⟩
abbrev main_while0b_v931 : Ref sig .tc := ⟨.hbm, 1146, rfl⟩
abbrev main_while0b_v932 : Ref sig .tc := ⟨.hbm, 1147, rfl⟩
abbrev main_while0b_v933 : Ref sig .tc := ⟨.hbm, 1148, rfl⟩
abbrev main_while0b_v934 : Ref sig .tc := ⟨.hbm, 1149, rfl⟩
abbrev main_while0b_v935 : Ref sig .tc := ⟨.hbm, 1150, rfl⟩
abbrev main_while0b_v936 : Ref sig .tc := ⟨.hbm, 1151, rfl⟩
abbrev main_while0b_v937 : Ref sig .tc := ⟨.hbm, 1152, rfl⟩
abbrev main_while0b_v938 : Ref sig .tc := ⟨.hbm, 1153, rfl⟩
abbrev main_while0b_v939 : Ref sig .tc := ⟨.hbm, 1154, rfl⟩
abbrev main_while0b_v940 : Ref sig .tc := ⟨.hbm, 1155, rfl⟩
abbrev main_while0b_v941 : Ref sig .tc := ⟨.hbm, 1156, rfl⟩
abbrev main_while0b_v942 : Ref sig .tc := ⟨.hbm, 1157, rfl⟩
abbrev main_while0b_cst_206 : Ref sig .tc := ⟨.hbm, 1158, rfl⟩
abbrev main_while0b_v943 : Ref sig .tc := ⟨.hbm, 1159, rfl⟩
abbrev main_while0b_cst_207 : Ref sig .tc := ⟨.hbm, 1160, rfl⟩
abbrev main_while0b_v944 : Ref sig .tc := ⟨.hbm, 1161, rfl⟩
abbrev main_while0b_v945 : Ref sig .tc := ⟨.hbm, 1162, rfl⟩
abbrev main_while0b_v946 : Ref sig .tc := ⟨.hbm, 1163, rfl⟩
abbrev main_while0b_v947 : Ref sig .tc := ⟨.hbm, 1164, rfl⟩
abbrev main_while0b_v948 : Ref sig .tc := ⟨.hbm, 1165, rfl⟩
abbrev main_while0b_v949 : Ref sig .tc := ⟨.hbm, 1166, rfl⟩
abbrev main_while0b_v950 : Ref sig .tc := ⟨.hbm, 1167, rfl⟩
abbrev main_while0b_v951 : Ref sig .tc := ⟨.hbm, 1168, rfl⟩
abbrev main_while0b_v952 : Ref sig .tc := ⟨.hbm, 1169, rfl⟩
abbrev main_while0b_v953 : Ref sig .tc := ⟨.hbm, 1170, rfl⟩
abbrev main_while0b_v954 : Ref sig .tc := ⟨.hbm, 1171, rfl⟩
abbrev main_while0b_v955 : Ref sig .tc := ⟨.hbm, 1172, rfl⟩
abbrev main_while0b_v956 : Ref sig .tc := ⟨.hbm, 1173, rfl⟩
abbrev main_while0b_cst_208 : Ref sig .tc := ⟨.hbm, 1174, rfl⟩
abbrev main_while0b_v957 : Ref sig .tc := ⟨.hbm, 1175, rfl⟩
abbrev main_while0b_v958 : Ref sig .tc := ⟨.hbm, 1176, rfl⟩
abbrev main_while0b_v959 : Ref sig .tc := ⟨.hbm, 1177, rfl⟩
abbrev main_while0b_c_209 : Ref sig .tc := ⟨.hbm, 1178, rfl⟩
abbrev main_while0b_v960 : Ref sig .tc := ⟨.hbm, 1179, rfl⟩

abbrev nD : Nat := 1
abbrev τ : Topo := Topo.v7x

variable {F : FTy → Type} [FloatOps F]

abbrev main_while0_count : Scf.Loop 32 := ⟨0#32, 512#32, 1#32⟩
-- ==== Proof.W.StepEq.lean ====
/- The printed region of the time loop is one call of `stepK`. -/
module

public import proofs.«01_k».proof.Proof.W.StepDef

@[expose] public section

set_option maxRecDepth 65536

noncomputable section

namespace Cert.Kernel.Step

open Idealize.ShloMosaic Idealize.SL.Sem
open Cert.Kernel Cert.Kernel.Gen

variable {F : FTy → Type} [FloatOps F]

set_option maxHeartbeats 2000000 in
/-- The loop's region issues no effect and returns `stepK` of what it carries. -/
theorem body_eq (arg0 : Memref sig .tc .vmem S32x512 .f32) (harg0 : arg0.IsWhole) (arg1 : Memref sig .tc .vmem S32x1 .f32) (harg1 : arg1.IsWhole) (arg2 : Memref sig .tc .vmem S32x512 .f32) (harg2 : arg2.IsWhole) (arg3 : Memref sig .tc .vmem S128x32 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x512 .f32) (harg6 : arg6.IsWhole) (v1 : FVec F S32x1 .f32) (v3 : FVec F S32x512 .f32) (v5 : FVec F S128x32 .f32) (v7 : FVec F S128x128 .f32) (v9 : FVec F S32x128 .f32) (v10 : IVec S1x512 32) (v11 : IVec S8x1 32) (v29 : IVec S1x512 1) (v31 : BitVec 32) (v33 : IVec S1x512 32) (v35 : IVec S1x512 1) (v37 : IVec S1x512 1) (k : Fin k0_t1_loop.trips) (acc : FVec F S32x512 .f32) :
    k0_t1_body (F := F) arg0 harg0 arg1 harg1 arg2 harg2 arg3 harg3 arg4 harg4 arg5 harg5 arg6 harg6 v1 v3 v5 v7 v9 v10 v11 v29 v31 v33 v35 v37 k acc =
      .ret (stepK ⟨v29, k0_pay1 v31 v33 v35 v37, k0_pay2 v10, k0_pay3 v10, k0_pay4 v10 v11, k0_pay5 v10 v11⟩ v1 v3 v5 v7 v9 acc) :=
  rfl

end Cert.Kernel.Step
-- ==== Proof.K.StepDef.lean ====
/- One trip of the kernel's time loop, written compactly: four conjugate-gradient solves of twenty iterations, one per
   channel, and the reaction term.  `body_eq` says that the printed region of the loop computes exactly this. -/
module

public import proofs.«01_k».proof.Proof.Gen.KernelIdeal.Skeleton

@[expose] public section

set_option maxRecDepth 65536

noncomputable section

namespace Cert.KernelIdeal.Step

open Idealize.ShloMosaic Idealize.SL.Sem
open Cert.KernelIdeal Cert.KernelIdeal.Gen

variable {F : FTy → Type} [FloatOps F]

/-- The masks of the grid's four edges, as the kernel builds them. -/
structure Masks where
  left : IVec S1x512 1
  right : IVec S1x512 1
  first : IVec S1x512 1
  last : IVec S1x512 1
  top : IVec S8x512 1
  bottom : IVec S8x512 1

/-- Zero where the mask is set (a mask of one row, repeated over the eight). -/
def zeroRow (m : IVec S1x512 1) (x : FVec F S8x512 .f32) : FVec F S8x512 .f32 :=
  select (broadcastTo S8x512 (shapeCast S1x512 m shapeCasts_S1x512_S1x512) broadcasts_S1x512_S8x512)
    (broadcast S8x512 (Scalar.ofBits .f32 0x00000000#32)) x

/-- A rotation by `l` lanes, the lanes under the mask rotated by `s` sublanes too. -/
def rotRow (m : IVec S1x512 1) (l s : BitVec 32) (p : FVec F S8x512 .f32) : FVec F S8x512 .f32 :=
  select (broadcastTo S8x512 (shapeCast S1x512 m shapeCasts_S1x512_S1x512) broadcasts_S1x512_S8x512)
    (dynamicRotate 0 s none (dynamicRotate 1 l none p rotates_S8x512_d1) rotates_S8x512_d0)
    (dynamicRotate 1 l none p rotates_S8x512_d1)

/-- Zero where the mask is set. -/
def zeroAt (m : IVec S8x512 1) (x : FVec F S8x512 .f32) : FVec F S8x512 .f32 :=
  select m (broadcast S8x512 (Scalar.ofBits .f32 0x00000000#32)) x

/-- The four neighbours' sum. -/
def neighbours (M : Masks) (p : FVec F S8x512 .f32) : FVec F S8x512 .f32 :=
  addf (addf (zeroRow M.left (dynamicRotate 1 1#32 none p rotates_S8x512_d1))
      (zeroRow M.right (dynamicRotate 1 511#32 none p rotates_S8x512_d1)))
    (addf (zeroAt M.top (rotRow M.first 64#32 1#32 p)) (zeroAt M.bottom (rotRow M.last 448#32 7#32 p)))

/-- The operator: the diagonal times `p`, less the neighbours' sum over h². -/
def matvec (M : Masks) (ad p : FVec F S8x512 .f32) : FVec F S8x512 .f32 :=
  subf (mulf ad p) (mulf (broadcast S8x512 (Scalar.ofBits .f32 0x43800000#32)) (neighbours M p))

/-- One fold of a column of eight onto itself. -/
def foldBy (k : BitVec 32) (s : FVec F S8x1 .f32) : FVec F S8x1 .f32 :=
  addf s (dynamicRotate 0 k none s rotates_S8x1_d0)

/-- The sum of all elements, in each of eight rows. -/
def psum (z : FVec F S8x512 .f32) : FVec F S8x1 .f32 :=
  foldBy 1#32 (foldBy 2#32 (foldBy 4#32
    (shapeCast S8x1 (multiReduction .add [1] S8 z 0x00000000#32 reduces_S8x512_S8 (.inl rfl) rfl) shapeCasts_S8_S8x1)))

/-- A column times a block. -/
def scaled (a : FVec F S8x1 .f32) (x : FVec F S8x512 .f32) : FVec F S8x512 .f32 :=
  mulf (broadcastTo S8x512 a broadcasts_S8x1_S8x512) x

/-- What the iteration carries for one channel. -/
structure St (F : FTy → Type) where
  x : FVec F S8x512 .f32
  r : FVec F S8x512 .f32
  p : FVec F S8x512 .f32
  Ap : FVec F S8x512 .f32
  rs : FVec F S8x1 .f32
  den : FVec F S8x1 .f32

/-- The guard 1e-30 in every row. -/
def tiny : FVec F S8x1 .f32 := broadcast S8x1 (Scalar.ofBits .f32 0x0DA24260#32)

/-- The step length. -/
def St.alpha (s : St F) : FVec F S8x1 .f32 := divf s.rs (addf s.den tiny)

/-- The new residual. -/
def St.rNew (s : St F) : FVec F S8x512 .f32 := subf s.r (scaled s.alpha s.Ap)

/-- The direction's coefficient: the new residual's square times the old one's inverse. -/
def St.beta (s : St F) : FVec F S8x1 .f32 :=
  mulf (psum (mulf s.rNew s.rNew)) (divf (broadcast S8x1 (Scalar.ofBits .f32 0x3F800000#32)) (addf s.rs tiny))

/-- The new approximation. -/
def St.xNew (s : St F) : FVec F S8x512 .f32 := addf s.x (scaled s.alpha s.p)

/-- One iteration of one channel. -/
def iter (M : Masks) (ad : FVec F S8x512 .f32) (s : St F) : St F where
  x := s.xNew
  r := s.rNew
  p := addf s.rNew (scaled s.beta s.p)
  Ap := addf (matvec M ad s.rNew) (scaled s.beta s.Ap)
  rs := psum (mulf s.rNew s.rNew)
  den := addf (psum (mulf s.rNew (matvec M ad s.rNew)))
    (mulf s.beta (addf (mulf (broadcast S8x1 (Scalar.ofBits .f32 0x40000000#32)) (psum (mulf s.rNew s.Ap))) (mulf s.beta s.den)))

/-- The state the iteration starts from, for the right-hand side `b`. -/
def start (M : Masks) (ad b : FVec F S8x512 .f32) : St F where
  x := broadcast S8x512 (Scalar.ofBits .f32 0x00000000#32)
  r := b
  p := b
  Ap := matvec M ad b
  rs := psum (mulf b b)
  den := psum (mulf b (matvec M ad b))

/-- `n` iterations. -/
def iters (M : Masks) (ad : FVec F S8x512 .f32) : ℕ → St F → St F
  | 0, s => s
  | n + 1, s => iter M ad (iters M ad n s)

/-- Twenty iterations' approximation, of the system with diagonal `ad` and right-hand side `g * u`. -/
def solve (M : Masks) (ad : FVec F S8x512 .f32) (g : FVec F S8x1 .f32) (u : FVec F S8x512 .f32) : FVec F S8x512 .f32 :=
  (iters M ad 19 (start M ad (scaled g u))).xNew

/-- The reaction term's three layers, added to the diffused array. -/
def react (W1 : FVec F S128x32 .f32) (W2 : FVec F S128x128 .f32) (W3 : FVec F S32x128 .f32) (U : FVec F S32x512 .f32) :
    FVec F S32x512 .f32 :=
  addf U (mulf (broadcast S32x512 (Scalar.ofBits .f32 0x3C800000#32))
    (tanh (matmul dot_S32x128_S128x512_S32x512_1_0_0_1_n_n none W3
      (tanh (matmul dot_S128x128_S128x512_S128x512_1_0_0_1_n_n none W2
        (tanh (matmul dot_S128x32_S32x512_S128x512_1_0_0_1_n_n none W1 U (constant S128x512 .f32 0x00000000#32)))
        (constant S128x512 .f32 0x00000000#32)))
      (constant S32x512 .f32 0x00000000#32))))

/-- One time step. -/
def stepK (M : Masks) (G : FVec F S32x1 .f32) (AD : FVec F S32x512 .f32) (W1 : FVec F S128x32 .f32)
    (W2 : FVec F S128x128 .f32) (W3 : FVec F S32x128 .f32) (U : FVec F S32x512 .f32) : FVec F S32x512 .f32 :=
  react W1 W2 W3 (concatenate S32x512 0
    [⟨S8x512, solve M (k0_pay6 AD) (k0_pay10 G) (extractStridedSlice S8x512 ![0, 0] U slices_S32x512_o0_0_S8x512)⟩,
     ⟨S8x512, solve M (k0_pay7 AD) (k0_pay11 G) (extractStridedSlice S8x512 ![8, 0] U slices_S32x512_o8_0_S8x512)⟩,
     ⟨S8x512, solve M (k0_pay8 AD) (k0_pay12 G) (extractStridedSlice S8x512 ![16, 0] U slices_S32x512_o16_0_S8x512)⟩,
     ⟨S8x512, solve M (k0_pay9 AD) (k0_pay13 G) (extractStridedSlice S8x512 ![24, 0] U slices_S32x512_o24_0_S8x512)⟩]
    concatenates_S8x512_S8x512_S8x512_S8x512_S32x512_d0)

end Cert.KernelIdeal.Step
-- ==== Proof.K.StepEq.lean ====
/- The printed region of the time loop is one call of `stepK`. -/
module

public import proofs.«01_k».proof.Proof.K.StepDef

@[expose] public section

set_option maxRecDepth 65536

noncomputable section

namespace Cert.KernelIdeal.Step

open Idealize.ShloMosaic Idealize.SL.Sem
open Cert.KernelIdeal Cert.KernelIdeal.Gen

variable {F : FTy → Type} [FloatOps F]

set_option maxHeartbeats 2000000 in
/-- The loop's region issues no effect and returns `stepK` of what it carries. -/
theorem body_eq (arg0 : Memref sig .tc .vmem S32x512 .f32) (harg0 : arg0.IsWhole) (arg1 : Memref sig .tc .vmem S32x1 .f32) (harg1 : arg1.IsWhole) (arg2 : Memref sig .tc .vmem S32x512 .f32) (harg2 : arg2.IsWhole) (arg3 : Memref sig .tc .vmem S128x32 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x512 .f32) (harg6 : arg6.IsWhole) (v1 : FVec F S32x1 .f32) (v3 : FVec F S32x512 .f32) (v5 : FVec F S128x32 .f32) (v7 : FVec F S128x128 .f32) (v9 : FVec F S32x128 .f32) (v10 : IVec S1x512 32) (v11 : IVec S8x1 32) (v29 : IVec S1x512 1) (v31 : BitVec 32) (v33 : IVec S1x512 32) (v35 : IVec S1x512 1) (v37 : IVec S1x512 1) (k : Fin k0_t1_loop.trips) (acc : FVec F S32x512 .f32) :
    k0_t1_body (F := F) arg0 harg0 arg1 harg1 arg2 harg2 arg3 harg3 arg4 harg4 arg5 harg5 arg6 harg6 v1 v3 v5 v7 v9 v10 v11 v29 v31 v33 v35 v37 k acc =
      .ret (stepK ⟨v29, k0_pay1 v31 v33 v35 v37, k0_pay2 v10, k0_pay3 v10, k0_pay4 v10 v11, k0_pay5 v10 v11⟩ v1 v3 v5 v7 v9 acc) :=
  rfl

end Cert.KernelIdeal.Step
-- ==== Proof.K.Run.lean ====
/- The kernel's run: the body's triple over the time loop's fold (`body_eq`), the proof data of its one pipeline, the run
   with the host lines after the region, and the frame. -/
module

public import proofs.«01_k».proof.Proof.K.StepEq
public import proofs.«01_k».proof.Proof.Gen.KernelIdeal.Frame
public import Idealize.ShloMosaic.Lib.Claim

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The time loop -/

/-- The masks the loop's region builds, from what the body hands it. -/
def masksOf (v10 : IVec S1x512 32) (v11 : IVec S8x1 32) (v29 : IVec S1x512 1) (v31 : BitVec 32) (v33 : IVec S1x512 32)
    (v35 v37 : IVec S1x512 1) : Masks :=
  ⟨v29, k0_pay1 v31 v33 v35 v37, k0_pay2 v10, k0_pay3 v10, k0_pay4 v10 v11, k0_pay5 v10 v11⟩

/-- The masks of the grid's edges. -/
def masks : Masks :=
  masksOf (iota .tc S1x512 32 [1] iota_S1x512_d1_w32) (iota .tc S8x1 32 [0] iota_S8x1_d0_w32) k0_pay1077
    (Scalar.select (Scalar.cmpi .eq 64#32 0#32) 1#32 64#32) k0_pay1078 k0_pay1079 k0_pay1080

/-- The loop runs to the fold of its step. -/
theorem loop_eq (arg0 : Memref sig .tc .vmem S32x512 .f32) (harg0 : arg0.IsWhole) (arg1 : Memref sig .tc .vmem S32x1 .f32) (harg1 : arg1.IsWhole) (arg2 : Memref sig .tc .vmem S32x512 .f32) (harg2 : arg2.IsWhole) (arg3 : Memref sig .tc .vmem S128x32 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x512 .f32) (harg6 : arg6.IsWhole) (v1 : FVec F S32x1 .f32) (v3 : FVec F S32x512 .f32) (v5 : FVec F S128x32 .f32) (v7 : FVec F S128x128 .f32) (v9 : FVec F S32x128 .f32) (v10 : IVec S1x512 32) (v11 : IVec S8x1 32) (v29 : IVec S1x512 1) (v31 : BitVec 32) (v33 : IVec S1x512 32) (v35 : IVec S1x512 1) (v37 : IVec S1x512 1) (init : FVec F S32x512 .f32) :
    Scf.Loop.for k0_t1_loop k0_t1_ok init (k0_t1_body (F := F) arg0 harg0 arg1 harg1 arg2 harg2 arg3 harg3 arg4 harg4 arg5 harg5 arg6 harg6 v1 v3 v5 v7 v9 v10 v11 v29 v31 v33 v35 v37) =
      .ret (Scf.fold (n := k0_t1_loop.trips) (fun _ => stepK (masksOf v10 v11 v29 v31 v33 v35 v37) v1 v3 v5 v7 v9) init) :=
  Scf.for_pure _ _ _ _ _ _ _ fun k acc => body_eq arg0 harg0 arg1 harg1 arg2 harg2 arg3 harg3 arg4 harg4 arg5 harg5 arg6 harg6 v1 v3 v5 v7 v9 v10 v11 v29 v31 v33 v35 v37 k acc

/-- All the steps, from what the six input buffers hold. -/
def final (x0 : Vec F S32x512 .f32) (x1 : Vec F S32x1 .f32) (x2 : Vec F S32x512 .f32) (x3 : Vec F S128x32 .f32)
    (x4 : Vec F S128x128 .f32) (x5 : Vec F S32x128 .f32) : FVec F S32x512 .f32 :=
  Scf.fold (n := k0_t1_loop.trips)
    (fun _ => stepK masks (k0_pay1072 x1) (k0_pay1073 x2) (k0_pay1074 x3) (k0_pay1075 x4) (k0_pay1076 x5)) (k0_pay14 x0)

/-! ## The body -/

abbrev r0_0 : Rect S32x512 := Rect.unit (s := S32x512) ![0, 0] S32x512.size inb_S32x512_S32x512_0_0
abbrev r0_1 : Rect S32x1 := Rect.unit (s := S32x1) ![0, 0] S32x1.size inb_S32x1_S32x1_0_0
abbrev r0_2 : Rect S32x512 := Rect.unit (s := S32x512) ![0, 0] S32x512.size inb_S32x512_S32x512_0_0
abbrev r0_3 : Rect S128x32 := Rect.unit (s := S128x32) ![0, 0] S128x32.size inb_S128x32_S128x32_0_0
abbrev r0_4 : Rect S128x128 := Rect.unit (s := S128x128) ![0, 0] S128x128.size inb_S128x128_S128x128_0_0
abbrev r0_5 : Rect S32x128 := Rect.unit (s := S32x128) ![0, 0] S32x128.size inb_S32x128_S32x128_0_0
abbrev r0_6 : Rect S32x512 := Rect.unit (s := S32x512) ![0, 0] S32x512.size inb_S32x512_S32x512_0_0

/-- What the body leaves in the output's buffer. -/
def out0_6 (x0 : Vec F S32x512 .f32) (x1 : Vec F S32x1 .f32) (x2 : Vec F S32x512 .f32) (x3 : Vec F S128x32 .f32) (x4 : Vec F S128x128 .f32) (x5 : Vec F S32x128 .f32) : Vec F S32x512 .f32 :=
  View.canon [⟨r0_6, final (View.ld x0 r0_0) (View.ld x1 r0_1) (View.ld x2 r0_2) (View.ld x3 r0_3) (View.ld x4 r0_4) (View.ld x5 r0_5)⟩]

/-- The store covers the buffer. -/
theorem cover0_6 (p0 : Vec F S32x512 .f32) (y : S32x512.Idx) :
    ∃ pc ∈ ([⟨r0_6, p0⟩] : List (View.Piece (Elt F) S32x512 .f32)), y ∈ pc.1.set :=
  View.cover_of_tiled [⟨r0_6, p0⟩] S32x512.size (by rfl) y

/-- The body on whole staging memrefs: the inputs' buffers stay as they were, the output's ends at `out0_6` of them. -/
theorem sound_kernel (c : Dev nD) (E : Set ℕ) (arg0 : Memref sig .tc .vmem S32x512 .f32) (harg0 : arg0.IsWhole) (arg1 : Memref sig .tc .vmem S32x1 .f32) (harg1 : arg1.IsWhole) (arg2 : Memref sig .tc .vmem S32x512 .f32) (harg2 : arg2.IsWhole) (arg3 : Memref sig .tc .vmem S128x32 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x512 .f32) (harg6 : arg6.IsWhole)
    (x0 : Vec F S32x512 .f32) (x1 : Vec F S32x1 .f32) (x2 : Vec F S32x512 .f32) (x3 : Vec F S128x32 .f32) (x4 : Vec F S128x128 .f32) (x5 : Vec F S32x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__dr_kernel arg0 harg0 arg1 harg1 arg2 harg2 arg3 harg3 arg4 harg4 arg5 harg5 arg6 harg6) K := by
  simp only [cc0__dr_kernel_eq_skeleton]; unfold cc0__dr_kernel_skel
  simp only [k0_part149_eq_skeleton]; unfold k0_part149_skel
  simp only [loop_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The arrays as the region finds them; after the body each input's buffer at its block and the output's at `out0_6` of the
    input blocks; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at the point's slots is the body. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline and every other buffer as the host lines after the region leave them, and every
    semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Step

end
-- ==== Proof.V.Masks.lean ====
/- The masks of the grid's edges, read: which lanes of the block, and which rows, each mask picks. -/
module

public import proofs.«01_k».proof.Proof.K.Run
public import Idealize.ShloMosaic.Lib.Pointwise

@[expose] public section

noncomputable section

namespace Cert.KernelIdeal.Step

open Idealize.ShloMosaic
open Cert.KernelIdeal Cert.KernelIdeal.Gen

/-- The lanes at the left edge. -/
theorem masks_left (l : Fin 512) : masks.left (ix2 0 l) = if l.val % 64 = 0 then 1#1 else 0#1 := by
  revert l
  decide +kernel

/-- The lanes at the right edge. -/
theorem masks_right (l : Fin 512) : masks.right (ix2 0 l) = if l.val % 64 = 63 then 1#1 else 0#1 := by
  revert l
  decide +kernel

/-- The first grid row of a block's row. -/
theorem masks_first (l : Fin 512) : masks.first (ix2 0 l) = if l.val < 64 then 1#1 else 0#1 := by
  revert l
  decide +kernel

/-- The last grid row of a block's row. -/
theorem masks_last (l : Fin 512) : masks.last (ix2 0 l) = if 448 ≤ l.val then 1#1 else 0#1 := by
  revert l
  decide +kernel

/-- The grid's top row. -/
theorem masks_top (r : Fin 8) (l : Fin 512) :
    masks.top (ix2 r l) = if r.val = 0 ∧ l.val < 64 then 1#1 else 0#1 := by
  revert r l
  decide +kernel

/-- The grid's bottom row. -/
theorem masks_bottom (r : Fin 8) (l : Fin 512) :
    masks.bottom (ix2 r l) = if r.val = 7 ∧ 448 ≤ l.val then 1#1 else 0#1 := by
  revert r l
  decide +kernel

end Cert.KernelIdeal.Step
-- ==== Proof.V.Model.lean ====
/- The mathematics of one solve, over the reals.  The grid of 64 by 64 points is numbered row by row: point `n` stands at
   x = n % 64 and y = n / 64, so its neighbours are `n ± 1` and `n ± 64`.  A field is a function of the point's number.
   Here: the operator of the implicit step, its symmetry and its sign, and the conjugate-gradient recurrence. -/
module

public import Idealize.ShloMosaic.Lib.Pointwise

@[expose] public section

noncomputable section

namespace Cert.Model

open Finset

/-- The point has a neighbour to its right. -/
def HasRight (n : ℕ) : Prop := n % 64 ≠ 63 ∧ n < 4096

/-- The point has a neighbour below. -/
def HasBelow (n : ℕ) : Prop := n + 64 < 4096

instance : DecidablePred HasRight := fun n => inferInstanceAs (Decidable (n % 64 ≠ 63 ∧ n < 4096))
instance : DecidablePred HasBelow := fun n => inferInstanceAs (Decidable (n + 64 < 4096))

/-- Over the edges from `n` to `n + s` (those `n` with `P n`), a field's differences, each counted at both ends. -/
def flux (s : ℕ) (P : ℕ → Prop) [DecidablePred P] (p : ℕ → ℝ) (n : ℕ) : ℝ :=
  (if P n then p n - p (n + s) else 0) + (if s ≤ n ∧ P (n - s) then p n - p (n - s) else 0)

/-- The operator: the negated Laplacian with insulated edges, over h² = 1/256, plus `γ`. -/
def op (γ : ℝ) (p : ℕ → ℝ) (n : ℕ) : ℝ :=
  256 * (flux 1 HasRight p n + flux 64 HasBelow p n) + γ * p n

/-- The inner product of two fields over the grid. -/
def dot (p q : ℕ → ℝ) : ℝ := ∑ n ∈ range 4096, p n * q n

/-- A sum over the far ends of the edges is a sum over their near ends. -/
theorem sum_far (N s : ℕ) (P : ℕ → Prop) [DecidablePred P] (hP : ∀ n, P n → n + s < N) (f : ℕ → ℝ) :
    (∑ n ∈ range N, if s ≤ n ∧ P (n - s) then f n else 0) = ∑ n ∈ range N, if P n then f (n + s) else 0 := by
  rw [← sum_filter, ← sum_filter]
  symm
  refine sum_nbij (fun n => n + s) ?_ ?_ ?_ ?_
  · intro n hn
    have hn := (mem_filter.1 hn).2
    refine mem_filter.2 ⟨mem_range.2 (hP n hn), Nat.le_add_left _ _, ?_⟩
    simpa using hn
  · intro a _ b _ h
    exact Nat.add_right_cancel h
  · intro m hm
    obtain ⟨_, h1, h2⟩ := mem_filter.1 hm
    have := mem_range.1 (mem_filter.1 hm).1
    exact ⟨m - s, mem_coe.2 (mem_filter.2 ⟨mem_range.2 (by omega), h2⟩), Nat.sub_add_cancel h1⟩
  · intro n _
    rfl

/-- Summed against a field, the differences pair edge by edge. -/
theorem sum_flux (N s : ℕ) (P : ℕ → Prop) [DecidablePred P] (hP : ∀ n, P n → n + s < N) (q p : ℕ → ℝ) :
    (∑ n ∈ range N, q n * flux s P p n)
      = ∑ n ∈ range N, if P n then (q (n + s) - q n) * (p (n + s) - p n) else 0 := by
  have h := sum_far N s P hP (fun n => q n * (p n - p (n - s)))
  have e : ∀ n, q n * flux s P p n
      = (if P n then q n * (p n - p (n + s)) else 0)
        + (if s ≤ n ∧ P (n - s) then q n * (p n - p (n - s)) else 0) := by
    intro n; unfold flux; split_ifs <;> ring
  rw [sum_congr rfl (fun n _ => e n), sum_add_distrib, h, ← sum_add_distrib]
  refine sum_congr rfl fun n _ => ?_
  split_ifs
  · rw [Nat.add_sub_cancel]; ring
  · simp

theorem right_lt (n : ℕ) (h : HasRight n) : n + 1 < 4096 := by
  unfold HasRight at h; omega

theorem below_lt (n : ℕ) (h : HasBelow n) : n + 64 < 4096 := h

/-- The form of the operator. -/
theorem dot_op (γ : ℝ) (q p : ℕ → ℝ) :
    dot q (op γ p)
      = 256 * ((∑ n ∈ range 4096, if HasRight n then (q (n + 1) - q n) * (p (n + 1) - p n) else 0)
          + ∑ n ∈ range 4096, if HasBelow n then (q (n + 64) - q n) * (p (n + 64) - p n) else 0)
        + γ * dot q p := by
  rw [← sum_flux 4096 1 HasRight right_lt, ← sum_flux 4096 64 HasBelow below_lt]
  unfold dot
  rw [mul_sum, ← sum_add_distrib, mul_sum, ← sum_add_distrib]
  refine sum_congr rfl fun n _ => ?_
  unfold op
  ring

theorem dot_comm (p q : ℕ → ℝ) : dot p q = dot q p :=
  sum_congr rfl fun n _ => mul_comm _ _

/-- The operator is symmetric. -/
theorem dot_op_comm (γ : ℝ) (q p : ℕ → ℝ) : dot q (op γ p) = dot p (op γ q) := by
  rw [dot_op, dot_op, dot_comm q p]
  simp only [mul_comm]

theorem dot_self_nonneg (p : ℕ → ℝ) : 0 ≤ dot p p := sum_nonneg fun n _ => mul_self_nonneg _

/-- The operator's form is not negative where `γ` is not. -/
theorem dot_op_nonneg {γ : ℝ} (hγ : 0 ≤ γ) (p : ℕ → ℝ) : 0 ≤ dot p (op γ p) := by
  rw [dot_op]
  have h : ∀ (s : ℕ) (P : ℕ → Prop) [DecidablePred P],
      (0:ℝ) ≤ ∑ n ∈ range 4096, if P n then (p (n + s) - p n) * (p (n + s) - p n) else 0 := by
    intro s P _
    refine sum_nonneg fun n _ => ?_
    split_ifs
    · exact mul_self_nonneg _
    · exact le_refl _
  have := h 1 HasRight
  have := h 64 HasBelow
  have := mul_nonneg hγ (dot_self_nonneg p)
  linarith

/-- The operator is linear. -/
theorem op_add_smul (γ β : ℝ) (r p : ℕ → ℝ) (n : ℕ) :
    op γ (fun n => r n + β * p n) n = op γ r n + β * op γ p n := by
  unfold op flux
  split_ifs <;> ring

theorem dot_add_smul (β : ℝ) (q r p : ℕ → ℝ) : dot q (fun n => r n + β * p n) = dot q r + β * dot q p := by
  unfold dot
  rw [mul_sum, ← sum_add_distrib]
  exact sum_congr rfl fun n _ => by ring

/-- The form at a new direction, from the residual's form, the mixed product and the old direction's form. -/
theorem dot_op_step (γ β : ℝ) (r p : ℕ → ℝ) :
    dot (fun n => r n + β * p n) (op γ (fun n => r n + β * p n))
      = dot r (op γ r) + β * (2 * dot r (op γ p) + β * dot p (op γ p)) := by
  have e : op γ (fun n => r n + β * p n) = fun n => op γ r n + β * op γ p n := funext (op_add_smul γ β r p)
  rw [e, dot_add_smul, dot_comm _ (op γ r), dot_comm _ (op γ p), dot_add_smul, dot_add_smul,
    dot_comm (op γ r) r, dot_comm (op γ r) p, dot_comm (op γ p) r, dot_comm (op γ p) p, dot_op_comm γ p r]
  ring

/-- The guard of the quotients: the rational number of the word written for 1e-30. -/
def eps : ℝ := 10633824 / 2 ^ 123

theorem eps_pos : 0 < eps := by unfold eps; positivity

/-- What the iteration carries. -/
structure St where
  x : ℕ → ℝ
  r : ℕ → ℝ
  p : ℕ → ℝ
  rs : ℝ

namespace St
variable (γ : ℝ) (s : St)

/-- The step length. -/
def alpha : ℝ := s.rs / (dot s.p (op γ s.p) + eps)

/-- The new approximation. -/
def xNew (n : ℕ) : ℝ := s.x n + s.alpha γ * s.p n

/-- The new residual. -/
def rNew (n : ℕ) : ℝ := s.r n - s.alpha γ * op γ s.p n

/-- The direction's coefficient. -/
def beta : ℝ := dot (s.rNew γ) (s.rNew γ) / (s.rs + eps)

/-- One iteration. -/
def next : St where
  x := s.xNew γ
  r := s.rNew γ
  p := fun n => s.rNew γ n + s.beta γ * s.p n
  rs := dot (s.rNew γ) (s.rNew γ)

end St

/-- Where the iteration starts, for the right-hand side `b`. -/
def start (b : ℕ → ℝ) : St := ⟨fun _ => 0, b, b, dot b b⟩

/-- `k` iterations. -/
def iters (γ : ℝ) (b : ℕ → ℝ) : ℕ → St
  | 0 => start b
  | k + 1 => (iters γ b k).next γ

/-- The residual's square is not negative. -/
theorem iters_rs_nonneg (γ : ℝ) (b : ℕ → ℝ) (k : ℕ) : 0 ≤ (iters γ b k).rs := by
  cases k <;> exact dot_self_nonneg _

/-- The diffused field: twenty iterations at the right-hand side `γ u`. -/
def solve (γ : ℝ) (u : ℕ → ℝ) : ℕ → ℝ := (iters γ (fun n => γ * u n) 20).x

/-! ## The reaction -/

open Idealize.ShloMosaic

/-- One layer at one point: a weighted sum of the incoming values, through the hyperbolic tangent. -/
def layer {C J : ℕ} (k : Fin C → Fin J → EReal) (v : Fin C → EReal) (j : Fin J) : EReal :=
  Ideal.tanh (∑ c, v c * k c j)

/-- Three layers at one point. -/
def react (k1 : Fin 4 → Fin 16 → EReal) (k2 : Fin 16 → Fin 16 → EReal) (k3 : Fin 16 → Fin 4 → EReal) (v : Fin 4 → EReal) :
    Fin 4 → EReal :=
  layer k3 (layer k2 (layer k1 v))

/-- A hyperbolic tangent is a real number, whatever its argument. -/
theorem tanh_real (x : EReal) : Ideal.tanh x = ((Ideal.tanh x).toReal : EReal) := by
  have h : ∀ t : ℝ, (t : EReal) = ((t : EReal).toReal : EReal) := fun t => by rw [EReal.toReal_coe]
  rcases x with _ | _ | r
  · exact h (-1)
  · exact h 1
  · exact h (Real.tanh r)

/-- One time step: each channel diffused by its own `γ`, then a sixty-fourth of the reaction added at each point. -/
def step (γ : Fin 4 → ℝ) (k1 : Fin 4 → Fin 16 → EReal) (k2 : Fin 16 → Fin 16 → EReal) (k3 : Fin 16 → Fin 4 → EReal)
    (u : Fin 4 → ℕ → ℝ) (c : Fin 4) (n : ℕ) : ℝ :=
  solve (γ c) (u c) n + 1 / 64 * (react k1 k2 k3 (fun d => (solve (γ d) (u d) n : EReal)) c).toReal

/-- A finite sum of reals, as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

/-- A real quotient with a divisor that is not zero. -/
theorem div_coe_coe {b : ℝ} (hb : b ≠ 0) (a : ℝ) : Ideal.div (a : EReal) (b : EReal) = ((a / b : ℝ) : EReal) := by
  rw [Ideal.div_coe hb, ← EReal.coe_mul, mul_one_div]

/-! ## The literals -/

theorem lit_h2 : Ideal.ofBits .f32 0x43800000#32 = ((256 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_dt : Ideal.ofBits .f32 0x3C800000#32 = ((1 / 64 : ℝ) : EReal) := by
  simp [Ideal.ofBits, Ideal.ieee, -EReal.coe_mul]; norm_num

theorem lit_hh : Ideal.ofBits .f32 0x3B800000#32 = ((1 / 256 : ℝ) : EReal) := by
  simp [Ideal.ofBits, Ideal.ieee, -EReal.coe_mul]; norm_num

theorem lit_eps : Ideal.ofBits .f32 0x0DA24260#32 = ((eps : ℝ) : EReal) := by
  simp [Ideal.ofBits, Ideal.ieee, eps, -EReal.coe_mul]; norm_num

end Cert.Model
-- ==== Proof.V.Kernel.lean ====
/- What one block of the kernel's arrays holds.  A channel's block has eight rows of 512 lanes; row `r`, lane `l` is the
   grid point `512 r + l`.  Here: each of the kernel's operations on a block that holds a real field leaves a block that
   holds the model's field, up to the twenty iterations of one solve. -/
module

public import proofs.«01_k».proof.Proof.V.Masks
public import proofs.«01_k».proof.Proof.V.Model

@[expose] public section

noncomputable section

namespace Cert.KernelIdeal.Step

open Idealize.ShloMosaic
open Cert.KernelIdeal Cert.KernelIdeal.Gen

/-- The block holds the field `x`. -/
def Rep (X : FVec Ideal S8x512 .f32) (x : ℕ → ℝ) : Prop :=
  ∀ (r : Fin 8) (l : Fin 512), X (ix2 r l) = (x (512 * r.val + l.val) : EReal)

/-- The column holds the number `v` in all its rows. -/
def RepC (X : FVec Ideal S8x1 .f32) (v : ℝ) : Prop := ∀ r : Fin 8, X (ix2 r 0) = (v : EReal)

variable {X Y : FVec Ideal S8x512 .f32} {x y : ℕ → ℝ} {A B : FVec Ideal S8x1 .f32} {a b γ : ℝ}

theorem Rep.add (hX : Rep X x) (hY : Rep Y y) : Rep (addf X Y) (fun n => x n + y n) := fun r l => by
  pointwise; rw [hX, hY, EReal.coe_add]

theorem Rep.sub (hX : Rep X x) (hY : Rep Y y) : Rep (subf X Y) (fun n => x n - y n) := fun r l => by
  pointwise; rw [hX, hY, EReal.coe_sub]

theorem Rep.mul (hX : Rep X x) (hY : Rep Y y) : Rep (mulf X Y) (fun n => x n * y n) := fun r l => by
  pointwise; rw [hX, hY, EReal.coe_mul]

theorem Rep.scaled (hA : RepC A a) (hX : Rep X x) : Rep (scaled A X) (fun n => a * x n) := fun r l => by
  pointwise [Step.scaled]; rw [hX, hA, EReal.coe_mul]

theorem RepC.add (hA : RepC A a) (hB : RepC B b) : RepC (addf A B) (a + b) := fun r => by
  pointwise; rw [hA, hB, EReal.coe_add]

theorem RepC.mul (hA : RepC A a) (hB : RepC B b) : RepC (mulf A B) (a * b) := fun r => by
  pointwise; rw [hA, hB, EReal.coe_mul]

theorem RepC.div (hA : RepC A a) (hB : RepC B b) (h : b ≠ 0) : RepC (divf A B) (a / b) := fun r => by
  pointwise; rw [hA, hB, Model.div_coe_coe h]

theorem RepC.tiny : RepC tiny Model.eps := fun r => by
  pointwise [Step.tiny]; exact Model.lit_eps

/-! ## The neighbours -/

/-- The four neighbours' sum, with zero where the grid has no neighbour. -/
def nb (x : ℕ → ℝ) (n : ℕ) : ℝ :=
  ((if n % 64 = 0 then 0 else x (n - 1)) + (if n % 64 = 63 then 0 else x (n + 1)))
    + ((if n < 64 then 0 else x (n - 64)) + (if 4032 ≤ n then 0 else x (n + 64)))

/-- How many neighbours the point has. -/
def deg (n : ℕ) : ℝ :=
  (2 - (if n < 64 then 1 else 0) - (if 4032 ≤ n then 1 else 0))
    + (2 - (if n % 64 = 0 then 1 else 0) - (if n % 64 = 63 then 1 else 0))

/-- The operator, as the number of neighbours on the diagonal less the neighbours' sum. -/
theorem op_eq (x : ℕ → ℝ) (n : ℕ) (hn : n < 4096) : (deg n * 256 + γ) * x n - 256 * nb x n = Model.op γ x n := by
  have h1 : Model.HasRight n ↔ ¬ n % 64 = 63 := by unfold Model.HasRight; omega
  have h2 : (1 ≤ n ∧ Model.HasRight (n - 1)) ↔ ¬ n % 64 = 0 := by unfold Model.HasRight; omega
  have h3 : Model.HasBelow n ↔ ¬ 4032 ≤ n := by unfold Model.HasBelow; omega
  have h4 : (64 ≤ n ∧ Model.HasBelow (n - 64)) ↔ ¬ n < 64 := by unfold Model.HasBelow; omega
  unfold Model.op Model.flux deg nb
  simp only [h1, h2, h3, h4, ite_not]
  split_ifs <;> ring

theorem select_ite (p : Prop) [Decidable p] (u v : EReal) :
    Scalar.select (if p then 1#1 else 0#1) u v = if p then u else v := by
  split_ifs <;> rfl

theorem Rep.neighbours (hX : Rep X x) : Rep (neighbours masks X) (nb x) := fun r l => by
  have hr := r.isLt
  have hl := l.isLt
  pointwise [Step.neighbours, zeroRow, zeroAt, rotRow, masks_left, masks_right, masks_first, masks_last, masks_top,
    masks_bottom]
  simp only [select_ite, hX _ _]
  have e1 : (if l.val % 64 = 0 then (0 : EReal) else (x (512 * r.val + (l.val + 512 - 1) % 512) : EReal))
      = ((if (512 * r.val + l.val) % 64 = 0 then 0 else x (512 * r.val + l.val - 1) : ℝ) : EReal) := by
    by_cases h : l.val % 64 = 0
    · rw [if_pos h, if_pos (by omega)]; rfl
    · rw [if_neg h, if_neg (by omega)]; congr 2; omega
  have e2 : (if l.val % 64 = 63 then (0 : EReal) else (x (512 * r.val + (l.val + 512 - 511) % 512) : EReal))
      = ((if (512 * r.val + l.val) % 64 = 63 then 0 else x (512 * r.val + l.val + 1) : ℝ) : EReal) := by
    by_cases h : l.val % 64 = 63
    · rw [if_pos h, if_pos (by omega)]; rfl
    · rw [if_neg h, if_neg (by omega)]; congr 2; omega
  have e3 : (if r.val = 0 ∧ l.val < 64 then (0 : EReal) else if l.val < 64
        then (x (512 * ((r.val + 8 - 1) % 8) + (l.val + 512 - 64) % 512) : EReal)
        else (x (512 * r.val + (l.val + 512 - 64) % 512) : EReal))
      = ((if 512 * r.val + l.val < 64 then 0 else x (512 * r.val + l.val - 64) : ℝ) : EReal) := by
    by_cases h : r.val = 0 ∧ l.val < 64
    · rw [if_pos h, if_pos (by omega)]; rfl
    · have h' : ¬ 512 * r.val + l.val < 64 := by omega
      rw [if_neg h, if_neg h']
      split_ifs <;> (congr 2; omega)
  have e4 : (if r.val = 7 ∧ 448 ≤ l.val then (0 : EReal) else if 448 ≤ l.val
        then (x (512 * ((r.val + 8 - 7) % 8) + (l.val + 512 - 448) % 512) : EReal)
        else (x (512 * r.val + (l.val + 512 - 448) % 512) : EReal))
      = ((if 4032 ≤ 512 * r.val + l.val then 0 else x (512 * r.val + l.val + 64) : ℝ) : EReal) := by
    by_cases h : r.val = 7 ∧ 448 ≤ l.val
    · rw [if_pos h, if_pos (by omega)]; rfl
    · have h' : ¬ 4032 ≤ 512 * r.val + l.val := by omega
      rw [if_neg h, if_neg h']
      split_ifs <;> (congr 2; omega)
  rw [e1, e2, e3, e4]
  unfold nb
  simp only [EReal.coe_add]

/-- The operator's block, where the diagonal's block holds 256 times the number of neighbours, plus `γ`. -/
theorem Rep.matvec (hY : Rep Y (fun n => deg n * 256 + γ)) (hX : Rep X x) : Rep (matvec masks Y X) (Model.op γ x) :=
  fun r l => by
    pointwise [Step.matvec]
    rw [hY, hX, hX.neighbours, Model.lit_h2, ← EReal.coe_mul, ← EReal.coe_mul, ← EReal.coe_sub,
      op_eq x _ (by have := r.isLt; have := l.isLt; omega)]

/-! ## The sum over a block -/

/-- A sum over the grid, row by row of the block. -/
theorem sum_rows (f : ℕ → ℝ) (m : ℕ) :
    ∑ n ∈ Finset.range (512 * m), f n = ∑ r ∈ Finset.range m, ∑ l ∈ Finset.range 512, f (512 * r + l) := by
  induction m with
  | zero => simp
  | succ m ih => rw [Nat.mul_succ, Finset.sum_range_add, ih, Finset.sum_range_succ _ m]

theorem RepC.psum (hX : Rep X x) : RepC (psum X) (∑ n ∈ Finset.range 4096, x n) := fun r => by
  have hs : ∀ r' : Fin 8, (∑ l, X (ix2 r' l)) = ((∑ l ∈ Finset.range 512, x (512 * r'.val + l) : ℝ) : EReal) := fun r' => by
    rw [Finset.sum_range, ← Model.coe_sum]
    exact Finset.sum_congr rfl fun l _ => hX r' l
  rw [show (4096 : ℕ) = 512 * 8 from rfl, sum_rows]
  pointwise [Step.psum, foldBy]
  simp only [hs, ← EReal.coe_add]
  refine congrArg _ ?_
  simp only [Finset.sum_range_succ _ 7, Finset.sum_range_succ _ 6, Finset.sum_range_succ _ 5, Finset.sum_range_succ _ 4,
    Finset.sum_range_succ _ 3, Finset.sum_range_succ _ 2, Finset.sum_range_succ _ 1, Finset.sum_range_succ _ 0,
    Finset.sum_range_zero]
  generalize hg : (fun k => ∑ l ∈ Finset.range 512, x (512 * k + l)) = g
  have hg' : ∀ k, (∑ l ∈ Finset.range 512, x (512 * k + l)) = g k := fun k => by rw [← hg]
  simp only [hg']
  fin_cases r <;> simp <;> ring

/-! ## The iteration -/

/-- A channel's carried blocks hold the model's carried fields, the operator at the direction, and its form. -/
structure RepSt (γ : ℝ) (S : St Ideal) (s : Model.St) : Prop where
  x : Rep S.x s.x
  r : Rep S.r s.r
  p : Rep S.p s.p
  Ap : Rep S.Ap (Model.op γ s.p)
  rs : RepC S.rs s.rs
  den : RepC S.den (Model.dot s.p (Model.op γ s.p))

variable {S : St Ideal} {s : Model.St}

theorem RepSt.alpha (hγ : 0 ≤ γ) (h : RepSt γ S s) : RepC S.alpha (s.alpha γ) :=
  h.rs.div (h.den.add RepC.tiny)
    (ne_of_gt (add_pos_of_nonneg_of_pos (Model.dot_op_nonneg hγ s.p) Model.eps_pos))

theorem RepSt.xNew (hγ : 0 ≤ γ) (h : RepSt γ S s) : Rep S.xNew (s.xNew γ) := h.x.add (h.p.scaled (h.alpha hγ))

theorem RepSt.rNew (hγ : 0 ≤ γ) (h : RepSt γ S s) : Rep S.rNew (s.rNew γ) := h.r.sub (h.Ap.scaled (h.alpha hγ))

theorem RepSt.beta (hγ : 0 ≤ γ) (hs : 0 ≤ s.rs) (h : RepSt γ S s) : RepC S.beta (s.beta γ) := by
  have h1 : RepC (broadcast S8x1 (Scalar.ofBits .f32 0x3F800000#32)) 1 := fun r => by
    pointwise; rfl
  have := (RepC.psum ((h.rNew hγ).mul (h.rNew hγ))).mul
    (h1.div (h.rs.add RepC.tiny) (ne_of_gt (add_pos_of_nonneg_of_pos hs Model.eps_pos)))
  rw [mul_one_div] at this
  exact this

/-- One iteration. -/
theorem RepSt.iter (hγ : 0 ≤ γ) (hs : 0 ≤ s.rs) (hY : Rep Y (fun n => deg n * 256 + γ)) (h : RepSt γ S s) :
    RepSt γ (iter masks Y S) (s.next γ) where
  x := h.xNew hγ
  r := h.rNew hγ
  p := (h.rNew hγ).add (h.p.scaled (h.beta hγ hs))
  Ap := by
    have := (hY.matvec (h.rNew hγ)).add (h.Ap.scaled (h.beta hγ hs))
    rwa [← funext (Model.op_add_smul γ (s.beta γ) (s.rNew γ) s.p)] at this
  rs := RepC.psum ((h.rNew hγ).mul (h.rNew hγ))
  den := by
    have h2 : RepC (broadcast S8x1 (Scalar.ofBits .f32 0x40000000#32)) 2 := fun r => by
      pointwise; exact Model.lit_two
    have := (RepC.psum ((h.rNew hγ).mul (hY.matvec (h.rNew hγ)))).add ((h.beta hγ hs).mul
      ((h2.mul (RepC.psum ((h.rNew hγ).mul h.Ap))).add ((h.beta hγ hs).mul h.den)))
    have e := Model.dot_op_step γ (s.beta γ) (s.rNew γ) s.p
    unfold Model.dot at e this
    rw [← e] at this
    exact this

/-- Where the iteration starts. -/
theorem RepSt.start (hY : Rep Y (fun n => deg n * 256 + γ)) (hX : Rep X x) : RepSt γ (start masks Y X) (Model.start x) where
  x := fun r l => by pointwise [Step.start, Model.start]; rfl
  r := hX
  p := hX
  Ap := hY.matvec hX
  rs := RepC.psum (hX.mul hX)
  den := RepC.psum (hX.mul (hY.matvec hX))

/-- All the iterations. -/
theorem RepSt.iters (hγ : 0 ≤ γ) (hY : Rep Y (fun n => deg n * 256 + γ)) (hX : Rep X x) (k : ℕ) :
    RepSt γ (iters masks Y k (Step.start masks Y X)) (Model.iters γ x k) := by
  induction k with
  | zero => exact RepSt.start hY hX
  | succ k ih => exact ih.iter hγ (Model.iters_rs_nonneg γ x k) hY

/-- One channel's solve. -/
theorem Rep.solve (hγ : 0 ≤ γ) (hY : Rep Y (fun n => deg n * 256 + γ)) (hA : RepC A γ) (hX : Rep X x) :
    Rep (solve masks Y A X) (Model.solve γ x) :=
  (RepSt.iters hγ hY (hX.scaled hA) 19).xNew hγ

end Cert.KernelIdeal.Step
-- ==== Proof.V.Channel.lean ====
/- One channel whose values may be infinite.  The number `g` of a channel is the quotient of one by the scaled step; where the
   scale is zero it is infinite, and the initial field may be infinite anywhere.  A solve whose right-hand side is infinite at
   a point takes steps of length zero, so it stays at zero; the model's channel is then zero too.  Here: the arithmetic of
   infinite values, and how a channel of extended reals stands for one of the model. -/
module

public import proofs.«01_k».proof.Proof.V.Model

@[expose] public section

noncomputable section

namespace Cert.Model

open Idealize.ShloMosaic

/-- The value is infinite. -/
def Inf (a : EReal) : Prop := a = ⊤ ∨ a = ⊥

variable {a b g : EReal} {γ : ℝ} {U : ℕ → EReal} {u : ℕ → ℝ}

/-- Whatever is added, an infinite value stays infinite. -/
theorem Inf.add (h : Inf a) (b : EReal) : Inf (a + b) := by
  rcases h with rfl | rfl
  · induction b with
    | bot => exact .inr (EReal.add_bot _)
    | top => exact .inl rfl
    | coe x => exact .inl (EReal.top_add_coe x)
  · exact .inr (EReal.bot_add b)

theorem Inf.add_left (h : Inf b) (a : EReal) : Inf (a + b) := by rw [add_comm]; exact h.add a

theorem Inf.sub (h : Inf a) (b : EReal) : Inf (a - b) := by rw [sub_eq_add_neg]; exact h.add _

theorem Inf.ne_zero (h : Inf a) : a ≠ 0 := by rcases h with rfl | rfl <;> simp

/-- Times anything but zero, an infinite value stays infinite. -/
theorem Inf.mul (h : Inf a) (hb : b ≠ 0) : Inf (a * b) := by
  rcases lt_or_gt_of_ne hb with hb | hb <;> rcases h with rfl | rfl
  · exact .inr (EReal.top_mul_of_neg hb)
  · exact .inl (EReal.bot_mul_of_neg hb)
  · exact .inl (EReal.top_mul_of_pos hb)
  · exact .inr (EReal.bot_mul_of_pos hb)

theorem Inf.mul_left (h : Inf b) (ha : a ≠ 0) : Inf (a * b) := by rw [mul_comm]; exact h.mul ha

/-- A sum with an infinite term is infinite. -/
theorem Inf.sum {ι : Type*} [Fintype ι] {f : ι → EReal} (i : ι) (h : Inf (f i)) : Inf (∑ i, f i) := by
  classical
  rw [← Finset.add_sum_erase _ f (Finset.mem_univ i)]
  exact h.add _

/-- A quotient by an infinite value is zero. -/
theorem div_inf (h : Inf b) (a : EReal) : Ideal.div a b = 0 := by
  rcases h with rfl | rfl <;> simp [Ideal.div]

theorem real_or_inf (a : EReal) : a = (a.toReal : EReal) ∨ Inf a := by
  induction a with
  | bot => exact .inr (.inr rfl)
  | top => exact .inr (.inl rfl)
  | coe x => exact .inl rfl

/-- The channel's number `g` is the real number `γ`, or it is infinite and the model's is zero. -/
def Gam (g : EReal) (γ : ℝ) : Prop := (0 ≤ γ ∧ g = (γ : EReal)) ∨ (g = ⊤ ∧ γ = 0)

/-- The right-hand side leaves a solve at zero: it is zero at every point, or it is infinite at one and `g` is positive. -/
def Still (g : EReal) (b : ℕ → EReal) : Prop := (∀ n < 4096, b n = 0) ∨ (0 < g ∧ ∃ n < 4096, Inf (b n))

/-- The channel `U` stands for the model's `u`: the two are equal, or a solve from either is at zero. -/
def Chan (g : EReal) (U : ℕ → EReal) (γ : ℝ) (u : ℕ → ℝ) : Prop :=
  (0 ≤ γ ∧ g = (γ : EReal) ∧ ∀ n < 4096, U n = (u n : EReal)) ∨ (Still g (fun n => g * U n) ∧ ∀ n, γ * u n = 0)

theorem Gam.nonneg (h : Gam g γ) : 0 ≤ g := by
  rcases h with ⟨h, rfl⟩ | ⟨rfl, -⟩
  · exact EReal.coe_nonneg.2 h
  · exact le_top

/-- A channel of real numbers stands for itself. -/
theorem Gam.real (h : Gam g γ) (hu : ∀ n < 4096, U n = (u n : EReal)) : Chan g U γ u := by
  rcases h with ⟨h, rfl⟩ | ⟨rfl, rfl⟩
  · exact .inl ⟨h, rfl, hu⟩
  · refine .inr ⟨?_, fun n => zero_mul _⟩
    by_cases hz : ∀ n < 4096, U n = 0
    · exact .inl fun n hn => by dsimp only; rw [hz n hn, mul_zero]
    · push Not at hz
      obtain ⟨n, hn, hz⟩ := hz
      exact .inr ⟨EReal.zero_lt_top, n, hn, Inf.mul (.inl rfl) hz⟩

/-- Any channel stands for some channel of the model. -/
theorem Gam.any (h : Gam g γ) (U : ℕ → EReal) : ∃ u : ℕ → ℝ, Chan g U γ u := by
  by_cases hU : ∀ n < 4096, U n = ((U n).toReal : EReal)
  · exact ⟨_, h.real hU⟩
  · push Not at hU
    obtain ⟨n, hn, hU⟩ := hU
    have hI : Inf (U n) := (real_or_inf (U n)).resolve_left hU
    refine ⟨fun _ => 0, .inr ⟨?_, fun _ => mul_zero _⟩⟩
    rcases h.nonneg.eq_or_lt with hg | hg
    · exact .inl fun n _ => by dsimp only; rw [← hg, zero_mul]
    · exact .inr ⟨hg, n, hn, hI.mul_left hg.ne'⟩

/-- The model's solve from a right-hand side of zeros is at zero. -/
theorem solve_zero (h : ∀ n, γ * u n = 0) (n : ℕ) : solve γ u n = 0 := by
  have hk : ∀ k, (∀ n, (iters γ (fun _ => 0) k).x n = 0) ∧ (∀ n, (iters γ (fun _ => 0) k).r n = 0)
      ∧ ∀ n, (iters γ (fun _ => 0) k).p n = 0 := by
    intro k
    induction k with
    | zero => exact ⟨fun _ => rfl, fun _ => rfl, fun _ => rfl⟩
    | succ k ih =>
      obtain ⟨hx, hr, hp⟩ := ih
      have hr' : ∀ n, (iters γ (fun _ => 0) k).rNew γ n = 0 := fun n => by
        unfold St.rNew op flux
        simp only [hp, hr]
        simp
      refine ⟨fun n => ?_, hr', fun n => ?_⟩
      · show (iters γ (fun _ => 0) k).x n + _ * (iters γ (fun _ => 0) k).p n = 0
        rw [hx, hp, mul_zero, add_zero]
      · show (iters γ (fun _ => 0) k).rNew γ n + _ * (iters γ (fun _ => 0) k).p n = 0
        rw [hr', hp, mul_zero, add_zero]
  unfold solve
  rw [funext h]
  exact (hk 20).1 n

end Cert.Model
-- ==== Proof.V.KernelStill.lean ====
/- One channel's solve in the kernel, whatever extended reals its field holds: where the right-hand side is zero, or infinite at
   a point, the step length and the direction's coefficient are zero, the carried blocks never change, and the solve is at
   zero. -/
module

public import proofs.«01_k».proof.Proof.V.Kernel
public import proofs.«01_k».proof.Proof.V.Channel

@[expose] public section

noncomputable section

namespace Cert.KernelIdeal.Step

open Idealize.ShloMosaic
open Cert.KernelIdeal Cert.KernelIdeal.Gen
open Cert.Model (Inf)

/-- The block holds the extended reals `U`. -/
def RepE (X : FVec Ideal S8x512 .f32) (U : ℕ → EReal) : Prop :=
  ∀ (r : Fin 8) (l : Fin 512), X (ix2 r l) = U (512 * r.val + l.val)

/-- The column holds the extended real `g` in all its rows. -/
def RepCE (A : FVec Ideal S8x1 .f32) (g : EReal) : Prop := ∀ r : Fin 8, A (ix2 r 0) = g

/-- The column's rows are infinite. -/
def InfC (A : FVec Ideal S8x1 .f32) : Prop := ∀ r : Fin 8, Inf (A (ix2 r 0))

variable {X Y Z B W : FVec Ideal S8x512 .f32} {A D T : FVec Ideal S8x1 .f32} {g : EReal} {b U : ℕ → EReal}

/-- The folded sum is the sum over all rows and lanes, in every row. -/
theorem psum_apply (X : FVec Ideal S8x512 .f32) (r : Fin 8) :
    psum X (ix2 r 0) = ∑ r' : Fin 8, ∑ l : Fin 512, (X (ix2 r' l) : EReal) := by
  pointwise [Step.psum, foldBy]
  generalize hf : (fun r' : Fin 8 => ∑ l : Fin 512, (X (ix2 r' l) : EReal)) = f
  have hf' : ∀ r' : Fin 8, (∑ l : Fin 512, (X (ix2 r' l) : EReal)) = f r' := fun r' => by rw [← hf]
  simp only [hf', Fin.sum_univ_eight]
  fin_cases r <;> simp <;> abel

theorem InfC.psum (r : Fin 8) (l : Fin 512) (h : Inf (X (ix2 r l))) : InfC (psum X) := fun r' => by
  rw [psum_apply]
  exact Inf.sum r (Inf.sum (f := fun l => X (ix2 r l)) l h)

theorem InfC.add (h : InfC A) (D : FVec Ideal S8x1 .f32) : InfC (addf A D) := fun r => by
  pointwise; exact (h r).add _

theorem InfC.div (h : InfC D) (A : FVec Ideal S8x1 .f32) : RepC (divf A D) 0 := fun r => by
  pointwise; exact Model.div_inf (h r) _

theorem RepC.mul_any (h : RepC A 0) (D : FVec Ideal S8x1 .f32) : RepC (mulf A D) 0 := fun r => by
  pointwise; rw [h]; exact zero_mul _

theorem RepC.any_mul (D : FVec Ideal S8x1 .f32) (h : RepC A 0) : RepC (mulf D A) 0 := fun r => by
  pointwise; rw [h]; exact mul_zero _

/-- Two columns are equal where their rows are. -/
theorem col_ext (h : ∀ r : Fin 8, A (ix2 r 0) = D (ix2 r 0)) : A = D := by
  funext i
  obtain ⟨r, o, rfl⟩ : ∃ (r : Fin 8) (o : Fin 1), i = ix2 r o := ⟨i 0, i 1, by funext a; fin_cases a <;> rfl⟩
  rw [Subsingleton.elim o 0]
  exact h r

/-- Two blocks are equal where their elements are. -/
theorem block_ext (h : ∀ (r : Fin 8) (l : Fin 512), X (ix2 r l) = Y (ix2 r l)) : X = Y := by
  funext i
  obtain ⟨r, l, rfl⟩ : ∃ (r : Fin 8) (l : Fin 512), i = ix2 r l := ⟨i 0, i 1, by funext a; fin_cases a <;> rfl⟩
  exact h r l

/-- Nothing is added by a block at coefficient zero. -/
theorem RepC.add_scaled (h : RepC A 0) (X Z : FVec Ideal S8x512 .f32) : addf X (scaled A Z) = X := block_ext fun r l => by
  pointwise [Step.scaled]; rw [h, EReal.coe_zero, zero_mul, add_zero]

theorem RepC.sub_scaled (h : RepC A 0) (X Z : FVec Ideal S8x512 .f32) : subf X (scaled A Z) = X := block_ext fun r l => by
  pointwise [Step.scaled]; rw [h, EReal.coe_zero, zero_mul, sub_zero]

theorem RepC.add_zero (h : RepC A 0) (D : FVec Ideal S8x1 .f32) : addf D A = D := col_ext fun r => by
  pointwise; rw [h, EReal.coe_zero, _root_.add_zero]

/-- Where the first step length and the first coefficient are zero, an iteration changes nothing. -/
theorem iter_start (ha : RepC (start masks Y B).alpha 0)
    (hb : RepC (mulf (psum (mulf B B)) (divf (broadcast S8x1 (Scalar.ofBits .f32 0x3F800000#32)) (addf (psum (mulf B B)) tiny))) 0) :
    iter masks Y (start masks Y B) = start masks Y B := by
  have hr : (start masks Y B).rNew = B := ha.sub_scaled _ _
  have hx : (start masks Y B).xNew = (start masks Y B).x := ha.add_scaled _ _
  have hβ : RepC (start masks Y B).beta 0 := by unfold St.beta; rw [hr]; exact hb
  unfold iter
  rw [hx, hr, hβ.add_scaled, hβ.add_scaled, (hβ.mul_any _).add_zero]
  rfl

/-- So the solve is at zero. -/
theorem solve_start (ha : RepC (start masks Y (scaled A X)).alpha 0)
    (hb : RepC (mulf (psum (mulf (scaled A X) (scaled A X)))
      (divf (broadcast S8x1 (Scalar.ofBits .f32 0x3F800000#32)) (addf (psum (mulf (scaled A X) (scaled A X))) tiny))) 0) :
    Rep (solve masks Y A X) (fun _ => 0) := by
  have hk : ∀ k, iters masks Y k (start masks Y (scaled A X)) = start masks Y (scaled A X) := by
    intro k
    induction k with
    | zero => rfl
    | succ k ih => exact (congrArg (iter masks Y) ih).trans (iter_start ha hb)
  unfold Step.solve
  rw [hk, show (start masks Y (scaled A X)).xNew = (start masks Y (scaled A X)).x from ha.add_scaled _ _]
  intro r l
  pointwise [Step.start]
  rfl

/-- The number of neighbours is not negative. -/
theorem deg_nonneg (n : ℕ) : 0 ≤ deg n := by
  unfold deg
  split_ifs <;> norm_num

/-- The operator is infinite where the block is, its diagonal being positive. -/
theorem RepE.matvec_inf (hY : RepE Y (fun n => ((deg n * 256 : ℝ) : EReal) + g)) (hg : 0 < g) {r : Fin 8} {l : Fin 512}
    (h : Inf (B (ix2 r l))) : Inf (matvec masks Y B (ix2 r l)) := by
  pointwise [Step.matvec]
  refine (h.mul_left ?_).sub _
  rw [hY]
  exact (hg.trans_le (le_add_of_nonneg_left
    (EReal.coe_nonneg.2 (mul_nonneg (deg_nonneg _) (by norm_num))))).ne'

/-- The solve from such a right-hand side. -/
theorem RepE.solve_still (hY : RepE Y (fun n => ((deg n * 256 : ℝ) : EReal) + g)) (hB : RepE (scaled A X) b)
    (hS : Model.Still g b) : Rep (solve masks Y A X) (fun _ => 0) := by
  rcases hS with hz | ⟨hg, n, hn, hI⟩
  · have h0 : ∀ (r : Fin 8) (l : Fin 512), scaled A X (ix2 r l) = (0 : EReal) := fun r l =>
      (hB r l).trans (hz _ (by omega))
    have hp : ∀ Z : FVec Ideal S8x512 .f32, RepC (psum (mulf (scaled A X) Z)) 0 := fun Z r => by
      rw [psum_apply]
      exact Finset.sum_eq_zero fun r' _ => Finset.sum_eq_zero fun l _ => by pointwise; rw [h0]; exact zero_mul _
    refine solve_start ?_ (RepC.mul_any (hp _) _)
    have := (hp (scaled A X)).div ((hp (matvec masks Y (scaled A X))).add RepC.tiny)
      (by rw [zero_add]; exact Model.eps_pos.ne')
    rw [zero_div] at this
    exact this
  · have hI' : Inf (scaled A X (ix2 (⟨n / 512, by omega⟩ : Fin 8) (⟨n % 512, by omega⟩ : Fin 512))) := by
      rw [hB]
      dsimp only
      rw [Nat.div_add_mod]
      exact hI
    have hp : ∀ Z : FVec Ideal S8x512 .f32, Inf (Z (ix2 (⟨n / 512, by omega⟩ : Fin 8) (⟨n % 512, by omega⟩ : Fin 512))) →
        InfC (psum (mulf (scaled A X) Z)) := fun Z h => InfC.psum _ _ (by pointwise; exact hI'.mul h.ne_zero)
    refine solve_start ?_ (RepC.any_mul _ (((hp _ hI').add _).div _))
    exact ((hp _ (hY.matvec_inf hg hI')).add _).div _

/-- One channel's solve, for a channel that stands for one of the model's. -/
theorem RepE.solve {γ : ℝ} {u : ℕ → ℝ} (hC : Model.Chan g U γ u) (hY : RepE Y (fun n => ((deg n * 256 : ℝ) : EReal) + g))
    (hA : RepCE A g) (hX : RepE X U) : Rep (solve masks Y A X) (Model.solve γ u) := by
  rcases hC with ⟨hγ, rfl, hu⟩ | ⟨hS, h0⟩
  · exact Rep.solve hγ (fun r l => by rw [hY, EReal.coe_add]) hA (fun r l => (hX r l).trans (hu _ (by omega)))
  · rw [funext (Model.solve_zero h0)]
    refine hY.solve_still (fun r l => ?_) hS
    pointwise [Step.scaled]
    rw [hA, hX]

end Cert.KernelIdeal.Step
-- ==== Proof.V.KernelStep.lean ====
/- What one time step of the kernel computes: four blocks solved, and the reaction's three layers, whose matrices are the
   reaction's own spread over the eight rows of a block. -/
module

public import proofs.«01_k».proof.Proof.V.KernelStill

@[expose] public section

noncomputable section

namespace Cert.KernelIdeal.Step

open Idealize.ShloMosaic
open Cert.KernelIdeal Cert.KernelIdeal.Gen

/-- The row `r` of the block `c`. -/
abbrev row {n : ℕ} (c : Fin n) (r : Fin 8) : Fin (8 * n) := ⟨8 * c.val + r.val, by omega⟩

/-- The array of four blocks holds four fields. -/
def RepU (X : FVec Ideal S32x512 .f32) (u : Fin 4 → ℕ → ℝ) : Prop :=
  ∀ (c : Fin 4) (r : Fin 8) (l : Fin 512), X (ix2 (row c r) l) = (u c (512 * r.val + l.val) : EReal)

/-- The array of four blocks holds four fields of extended reals. -/
def RepUE (X : FVec Ideal S32x512 .f32) (U : Fin 4 → ℕ → EReal) : Prop :=
  ∀ (c : Fin 4) (r : Fin 8) (l : Fin 512), X (ix2 (row c r) l) = U c (512 * r.val + l.val)

/-- The column of four blocks holds four extended reals, each in its block's eight rows. -/
def RepG (G : FVec Ideal S32x1 .f32) (g : Fin 4 → EReal) : Prop :=
  ∀ (c : Fin 4) (r : Fin 8), G (ix2 (row c r) 0) = g c

/-- The matrix `k` transposed, each entry spread over an eight by eight diagonal. -/
def Spread {C J : ℕ} (W : FVec Ideal ⟨2, ![8 * J, 8 * C]⟩ .f32) (k : Fin C → Fin J → EReal) : Prop :=
  ∀ (j : Fin J) (a : Fin 8) (c : Fin C) (b : Fin 8), W (ix2 (row j a) (row c b)) = k c j * if a = b then 1 else 0

/-- A sum over rows is a sum over blocks of sums over a block's rows. -/
theorem sum_row {C : ℕ} (f : Fin (8 * C) → EReal) : ∑ i, f i = ∑ c : Fin C, ∑ b : Fin 8, f (row c b) := by
  rw [← Fintype.sum_prod_type', ← Equiv.sum_comp (finProdFinEquiv.trans (finCongr (Nat.mul_comm C 8)))]
  refine Finset.sum_congr rfl fun x _ => congrArg f (Fin.ext ?_)
  simp [add_comm]

/-- A row of a spread matrix against a column: only the rows of the same number in each block count. -/
theorem Spread.sum {C J : ℕ} {W : FVec Ideal ⟨2, ![8 * J, 8 * C]⟩ .f32} {k : Fin C → Fin J → EReal} (h : Spread W k)
    (j : Fin J) (a : Fin 8) (v : Fin (8 * C) → EReal) :
    ∑ i, W (ix2 (row j a) i) * v i = ∑ c, v (row c a) * k c j := by
  rw [sum_row]
  refine Finset.sum_congr rfl fun c _ => ?_
  rw [Finset.sum_eq_single a]
  · rw [h, if_pos rfl, mul_one, mul_comm]
  · intro b _ hb
    rw [h, if_neg (Ne.symm hb), mul_zero, zero_mul]
  · intro hb
    exact absurd (Finset.mem_univ a) hb

variable {k1 : Fin 4 → Fin 16 → EReal} {k2 : Fin 16 → Fin 16 → EReal} {k3 : Fin 16 → Fin 4 → EReal}
  {W1 : FVec Ideal S128x32 .f32} {W2 : FVec Ideal S128x128 .f32} {W3 : FVec Ideal S32x128 .f32}

/-- The reaction: at each point, the field plus a sixty-fourth of three layers of the four fields there. -/
theorem RepU.react (h1 : Spread (C := 4) (J := 16) W1 k1) (h2 : Spread (C := 16) (J := 16) W2 k2)
    (h3 : Spread (C := 16) (J := 4) W3 k3) {U : FVec Ideal S32x512 .f32} {u : Fin 4 → ℕ → ℝ} (hU : RepU U u) :
    RepU (react W1 W2 W3 U) (fun c n => u c n + 1 / 64 * (Model.react k1 k2 k3 (fun d => (u d n : EReal)) c).toReal) :=
  fun c r l => by
    pointwise [Step.react]
    have e1 : ∀ j : Fin 16, (∑ x, W1 (ix2 (row j r) x) * U (ix2 x l))
        = ∑ d : Fin 4, (u d (512 * r.val + l.val) : EReal) * k1 d j := fun j =>
      (h1.sum j r (fun x => U (ix2 x l))).trans (Finset.sum_congr rfl fun d _ => congrArg (· * _) (hU d r l))
    have e2 : ∀ (v : Fin 16 → EReal) (V : Fin 128 → EReal) (hV : ∀ d, V (row d r) = v d) (j : Fin 16),
        (∑ x, W2 (ix2 (row j r) x) * V x) = ∑ d, v d * k2 d j := fun v V hV j =>
      (h2.sum j r V).trans (Finset.sum_congr rfl fun d _ => congrArg (· * _) (hV d))
    have e3 : ∀ (v : Fin 16 → EReal) (V : Fin 128 → EReal) (hV : ∀ d, V (row d r) = v d) (j : Fin 4),
        (∑ x, W3 (ix2 (row j r) x) * V x) = ∑ d, v d * k3 d j := fun v V hV j =>
      (h3.sum j r V).trans (Finset.sum_congr rfl fun d _ => congrArg (· * _) (hV d))
    have e := e3 (Model.layer k2 (Model.layer k1 (fun d => (u d (512 * r.val + l.val) : EReal))))
      (fun x => Ideal.tanh (∑ y, W2 (ix2 x y) * Ideal.tanh (∑ z, W1 (ix2 y z) * U (ix2 z l))))
      (fun d => congrArg Ideal.tanh (e2 (Model.layer k1 (fun d => (u d (512 * r.val + l.val) : EReal)))
        (fun y => Ideal.tanh (∑ z, W1 (ix2 y z) * U (ix2 z l))) (fun d' => congrArg Ideal.tanh (e1 d')) d)) c
    have hT := congrArg Ideal.tanh e
    have hR : Ideal.tanh (∑ d, Model.layer k2 (Model.layer k1 (fun d => (u d (512 * r.val + l.val) : EReal))) d * k3 d c)
        = ((Model.react k1 k2 k3 (fun d => (u d (512 * r.val + l.val) : EReal)) c).toReal : EReal) := Model.tanh_real _
    rw [EReal.coe_add, EReal.coe_mul, ← hR, ← Model.lit_dt, ← hU c r l]
    exact congrArg (fun t => _ + _ * t) hT

/-- Four blocks one under another, read at a row of one of them. -/
theorem stack_apply (f : Fin 4 → FVec Ideal S8x512 .f32) (c : Fin 4) (r : Fin 8) (l : Fin 512) :
    concatenate S32x512 0 [⟨S8x512, f 0⟩, ⟨S8x512, f 1⟩, ⟨S8x512, f 2⟩, ⟨S8x512, f 3⟩]
      concatenates_S8x512_S8x512_S8x512_S8x512_S32x512_d0 (ix2 (row c r) l) = f c (ix2 r l) := by
  fin_cases c
  all_goals
    pointwise <;> split_ifs <;> first | omega | (congr 2; apply Fin.ext; show _ = r.val; dsimp only; omega)

variable {g : Fin 4 → EReal} {U' : Fin 4 → ℕ → EReal} {γ : Fin 4 → ℝ} {G : FVec Ideal S32x1 .f32} {AD U : FVec Ideal S32x512 .f32} {u : Fin 4 → ℕ → ℝ}

/-- One time step. -/
theorem RepUE.stepK (hC : ∀ c, Model.Chan (g c) (U' c) (γ c) (u c)) (hG : RepG G g)
    (hA : RepUE AD (fun c n => ((deg n * 256 : ℝ) : EReal) + g c))
    (h1 : Spread (C := 4) (J := 16) W1 k1) (h2 : Spread (C := 16) (J := 16) W2 k2) (h3 : Spread (C := 16) (J := 4) W3 k3)
    (hU : RepUE U U') : RepU (Step.stepK masks G AD W1 W2 W3 U) (Model.step γ k1 k2 k3 u) := by
  refine RepU.react h1 h2 h3 (u := fun c => Model.solve (γ c) (u c)) ?_
  have e0 : ∀ r : Fin 8, (⟨r.val, by omega⟩ : Fin 32) = row (0 : Fin 4) r := fun r => Fin.ext (Nat.zero_add _).symm
  have s0 : Rep (solve masks (k0_pay6 AD) (k0_pay10 G) (extractStridedSlice S8x512 ![0, 0] U slices_S32x512_o0_0_S8x512))
      (Model.solve (γ 0) (u 0)) := RepE.solve (hC 0) (fun r l => by pointwise [k0_pay6]; rw [e0]; exact hA 0 r l)
    (fun r => by pointwise [k0_pay10]; rw [e0]; exact hG 0 r) (fun r l => by pointwise; rw [e0]; exact hU 0 r l)
  have s1 : Rep (solve masks (k0_pay7 AD) (k0_pay11 G) (extractStridedSlice S8x512 ![8, 0] U slices_S32x512_o8_0_S8x512))
      (Model.solve (γ 1) (u 1)) := RepE.solve (hC 1) (fun r l => by pointwise [k0_pay7]; exact hA 1 r l)
    (fun r => by pointwise [k0_pay11]; exact hG 1 r) (fun r l => by pointwise; exact hU 1 r l)
  have s2 : Rep (solve masks (k0_pay8 AD) (k0_pay12 G) (extractStridedSlice S8x512 ![16, 0] U slices_S32x512_o16_0_S8x512))
      (Model.solve (γ 2) (u 2)) := RepE.solve (hC 2) (fun r l => by pointwise [k0_pay8]; exact hA 2 r l)
    (fun r => by pointwise [k0_pay12]; exact hG 2 r) (fun r l => by pointwise; exact hU 2 r l)
  have s3 : Rep (solve masks (k0_pay9 AD) (k0_pay13 G) (extractStridedSlice S8x512 ![24, 0] U slices_S32x512_o24_0_S8x512))
      (Model.solve (γ 3) (u 3)) := RepE.solve (hC 3) (fun r l => by pointwise [k0_pay9]; exact hA 3 r l)
    (fun r => by pointwise [k0_pay13]; exact hG 3 r) (fun r l => by pointwise; exact hU 3 r l)
  intro c r l
  refine (stack_apply (fun c => match c with | 0 => _ | 1 => _ | 2 => _ | 3 => _) c r l).trans ?_
  match c with
  | 0 => exact s0 r l
  | 1 => exact s1 r l
  | 2 => exact s2 r l
  | 3 => exact s3 r l

end Cert.KernelIdeal.Step
-- ==== Proof.V.Host.lean ====
/- What the host lines before the launch leave in the six input arrays: the numbers `g`, the operator's diagonal, the four
   initial fields, and the reaction's matrices spread over a block's rows. -/
module

public import proofs.«01_k».proof.Proof.V.KernelStep
public import Idealize.ShloMosaic.Lib.StableHlo.ReadAt

@[expose] public section

set_option maxRecDepth 16384

noncomputable section

namespace Cert.KernelIdeal.Step

open Idealize.ShloMosaic Idealize.ShloMosaic.TcCoe
open Cert.KernelIdeal Cert.KernelIdeal.Gen

/-- A comparison of two small numbers for equality, as a float. -/
theorem eq_word (k n : ℕ) (hk : k < 2 ^ 32) (hn : n < 2 ^ 32) :
    FloatOps.uitofp (F := Ideal) .f32 (IntOp.cmpi .eq (BitVec.ofNat 32 k) (BitVec.ofNat 32 n))
      = ((if k = n then 1 else 0 : ℝ) : EReal) := by
  have h : BitVec.ofNat 32 k = BitVec.ofNat 32 n ↔ k = n := by
    constructor
    · intro h
      have := congrArg BitVec.toNat h
      rwa [BitVec.toNat_ofNat, BitVec.toNat_ofNat, Nat.mod_eq_of_lt hk, Nat.mod_eq_of_lt hn] at this
    · intro h; rw [h]
  by_cases e : k = n
  · subst e
    rw [if_pos rfl]
    show ((IntOp.cmpi .eq (BitVec.ofNat 32 k) (BitVec.ofNat 32 k)).toNat : EReal) = _
    simp [IntOp.cmpi]
  · rw [if_neg e]
    show ((IntOp.cmpi .eq (BitVec.ofNat 32 k) (BitVec.ofNat 32 n)).toNat : EReal) = _
    have : ¬ BitVec.ofNat 32 k = BitVec.ofNat 32 n := fun hh => e (h.1 hh)
    simp [IntOp.cmpi, this]

/-- The diffusion scale the program is given. -/
abbrev argScale (m : (ℓ : Loc nD τ sig) → Buf (Elt Ideal) ℓ) (c : Dev nD) : FVec Ideal S4 .f32 :=
  m (c, Proc.tc.devRef main_arg1)

variable (m : (ℓ : Loc nD τ sig) → Buf (Elt Ideal) ℓ) (c : Dev nD) {g : Fin 4 → EReal} {U : Fin 4 → ℕ → EReal}

/-- The column of the numbers `g`. -/
theorem rep_gamma
    (hg : ∀ d : Fin 4, Ideal.div 1 ((argScale m c (ix1 d) : EReal) * (Ideal.ofBits .f32 0x3C800000#32 : EReal)) = g d) :
    RepG (V m c main_call0_v6) g := fun d r => by
  rw [← hg]
  unfold V V0
  after_reads_at
  rw [show (⟨(8 * d.val + r.val) / 8, by omega⟩ : Fin 4) = d from Fin.ext (by dsimp only; omega)]

/-- The initial fields. -/
theorem rep_field
    (hu : ∀ (n : Fin 4096) (d : Fin 4), m (c, Proc.tc.devRef main_arg0) (ix2 n d) = U d n.val) :
    RepUE (V m c main_call0_v43) U := fun d r l => by
  have e := hu ⟨512 * r.val + l.val, by omega⟩ d
  rw [← e]
  unfold V V0
  after_reads_at
  refine congrArg _ (congrArg₂ ix2 (Fin.ext ?_) (Fin.ext ?_)) <;> dsimp only <;> omega

/-- The two edges' share in the number of neighbours along one axis: two, less one at either end. -/
def degAxis : FVec Ideal S64 .f32 :=
  subf (subf (broadcastInDim S64 ![] bcast_S_S64 (constant S_ .f32 0x40000000#32))
      (uitofp .f32 (cmpi .eq (iotaInDim S64 32 0) (broadcastInDim S64 ![] bcast_S_S64 (constantI S_ 32 0#32)))))
    (uitofp .f32 (cmpi .eq (iotaInDim S64 32 0) (broadcastInDim S64 ![] bcast_S_S64 (constantI S_ 32 63#32))))

theorem degAxis_apply (k : Fin 64) :
    degAxis (ix1 k) = ((2 - (if k.val = 0 then 1 else 0) - (if k.val = 63 then 1 else 0) : ℝ) : EReal) := by
  pointwise [degAxis]
  rw [eq_word _ 0 (by omega) (by omega), eq_word _ 63 (by omega) (by omega), Model.lit_two, ← EReal.coe_sub, ← EReal.coe_sub]

/-- The number of neighbours of each point of the square grid. -/
def degTable : FVec Ideal S64x64 .f32 :=
  id (addf (broadcastInDim S64x64 ![0, 1] bcast_S64x1_S64x64_0_1 (broadcastInDim S64x1 ![0] bcast_S64_S64x1_0 degAxis))
    (broadcastInDim S64x64 ![0, 1] bcast_S1x64_S64x64_0_1 (broadcastInDim S1x64 ![1] bcast_S64_S1x64_1 degAxis)))

theorem degTable_apply (y x : Fin 64) : degTable (ix2 y x) = ((deg (64 * y.val + x.val) : ℝ) : EReal) := by
  have e : degTable (ix2 y x) = (degAxis (ix1 y) : EReal) + degAxis (ix1 x) := by
    simp only [degTable, id]
    pointwise
  have h1 : y.val = 0 ↔ 64 * y.val + x.val < 64 := by omega
  have h2 : y.val = 63 ↔ 4032 ≤ 64 * y.val + x.val := by omega
  have h3 : x.val = 0 ↔ (64 * y.val + x.val) % 64 = 0 := by omega
  have h4 : x.val = 63 ↔ (64 * y.val + x.val) % 64 = 63 := by omega
  rw [e, degAxis_apply, degAxis_apply, ← EReal.coe_add]
  unfold deg
  simp only [← h1, ← h2, ← h3, ← h4]

/-- The diagonal's array, read. -/
theorem diag_read (d : Fin 4) (r : Fin 8) (l : Fin 512) : V m c main_call0_v40 (ix2 (row d r) l)
    = (degTable (ix2 ⟨(8 * d.val + r.val) % 8 * 8 + l.val / 64, by omega⟩ ⟨l.val % 64, by omega⟩) : EReal)
        * (Ideal.ofBits .f32 0x43800000#32 : EReal)
      + Ideal.div 1 ((argScale m c (ix1 ⟨(8 * d.val + r.val) / 8, by omega⟩) : EReal) * (Ideal.ofBits .f32 0x3C800000#32 : EReal)) := by
  unfold V V0
  after_reads_at
  rfl

/-- The operator's diagonal. -/
theorem rep_diag
    (hg : ∀ d : Fin 4, Ideal.div 1 ((argScale m c (ix1 d) : EReal) * (Ideal.ofBits .f32 0x3C800000#32 : EReal)) = g d) :
    RepUE (V m c main_call0_v40) (fun d n => ((deg n * 256 : ℝ) : EReal) + g d) := fun d r l => by
  have e1 : (⟨(8 * d.val + r.val) / 8, by omega⟩ : Fin 4) = d := Fin.ext (by dsimp only; omega)
  have e2 : 64 * ((8 * d.val + r.val) % 8 * 8 + l.val / 64) + l.val % 64 = 512 * r.val + l.val := by omega
  rw [diag_read, degTable_apply, hg, e1, Model.lit_h2, ← EReal.coe_mul]
  dsimp only
  rw [e2]

/-- The first layer's matrix. -/
theorem spread1 : Spread (C := 4) (J := 16) (V m c main_call0_v51)
    (fun i j => m (c, Proc.tc.devRef main_arg2) (ix2 i j)) := fun j a i b => by
  unfold V V0
  after_reads_at
  rw [show IntOp.addi (BitVec.ofNat 32 ((8 * j.val + a.val) % 8)) 0#32 = BitVec.ofNat 32 ((8 * j.val + a.val) % 8) from
    BitVec.add_zero _, eq_word _ _ (by omega) (by omega),
    show (⟨(8 * i.val + b.val) / 8, by omega⟩ : Fin 4) = i from Fin.ext (by dsimp only; omega),
    show (⟨(8 * j.val + a.val) / 8, by omega⟩ : Fin 16) = j from Fin.ext (by dsimp only; omega)]
  have h : (8 * j.val + a.val) % 8 = (8 * i.val + b.val) % 8 ↔ a = b := by rw [Fin.ext_iff]; omega
  simp only [h]
  split_ifs <;> rfl

/-- The second layer's matrix. -/
theorem spread2 : Spread (C := 16) (J := 16) (V m c main_call0_v53)
    (fun i j => m (c, Proc.tc.devRef main_arg3) (ix2 i j)) := fun j a i b => by
  unfold V V0
  after_reads_at
  rw [show IntOp.addi (BitVec.ofNat 32 ((8 * j.val + a.val) % 8)) 0#32 = BitVec.ofNat 32 ((8 * j.val + a.val) % 8) from
    BitVec.add_zero _, eq_word _ _ (by omega) (by omega),
    show (⟨(8 * i.val + b.val) / 8, by omega⟩ : Fin 16) = i from Fin.ext (by dsimp only; omega),
    show (⟨(8 * j.val + a.val) / 8, by omega⟩ : Fin 16) = j from Fin.ext (by dsimp only; omega)]
  have h : (8 * j.val + a.val) % 8 = (8 * i.val + b.val) % 8 ↔ a = b := by rw [Fin.ext_iff]; omega
  simp only [h]
  split_ifs <;> rfl

/-- The third layer's matrix. -/
theorem spread3 : Spread (C := 16) (J := 4) (V m c main_call0_v55)
    (fun i j => m (c, Proc.tc.devRef main_arg4) (ix2 i j)) := fun j a i b => by
  unfold V V0
  after_reads_at
  rw [show IntOp.addi (BitVec.ofNat 32 ((8 * j.val + a.val) % 8)) 0#32 = BitVec.ofNat 32 ((8 * j.val + a.val) % 8) from
    BitVec.add_zero _, eq_word _ _ (by omega) (by omega),
    show (⟨(8 * i.val + b.val) / 8, by omega⟩ : Fin 16) = i from Fin.ext (by dsimp only; omega),
    show (⟨(8 * j.val + a.val) / 8, by omega⟩ : Fin 4) = j from Fin.ext (by dsimp only; omega)]
  have h : (8 * j.val + a.val) % 8 = (8 * i.val + b.val) % 8 ↔ a = b := by rw [Fin.ext_iff]; omega
  simp only [h]
  split_ifs <;> rfl

end Cert.KernelIdeal.Step
-- ==== Proof.V.KernelValue.lean ====
/- What the kernel's run leaves: the region's output array holds the four fields after 512 time steps, and the host lines
   after it lay the same fields out point by point. -/
module

public import proofs.«01_k».proof.Proof.V.Host
public import Idealize.ShloMosaic.Lib.Pipeline.ValueKit
public import Idealize.ShloMosaic.Lib.Claim

@[expose] public section

set_option maxRecDepth 16384

noncomputable section

namespace Cert.KernelIdeal.Step

open Idealize.ShloMosaic Idealize.ShloMosaic.TcCoe
open Cert.KernelIdeal Cert.KernelIdeal.Gen
open Idealize.ShloMosaic.Pipeline (Dat Cfg Window BodyObligation cellOf)

variable (m : (ℓ : Loc nD τ sig) → Buf (Elt Ideal) ℓ) (c : Dev nD)

/-- Each input's one block is its array. -/
theorem iblk_0 : iblk m c 0 t0_0 = V m c main_call0_v43 := by
  funext j; unfold iblk; blk_simp
  refine congrArg _ (funext fun a => Fin.ext ?_)
  fin_cases a <;> simp [Window.blk] <;> decide +kernel

theorem iblk_1 : iblk m c 1 t0_0 = V m c main_call0_v6 := by
  funext j; unfold iblk; blk_simp
  refine congrArg _ (funext fun a => Fin.ext ?_)
  fin_cases a <;> simp [Window.blk] <;> decide +kernel

theorem iblk_2 : iblk m c 2 t0_0 = V m c main_call0_v40 := by
  funext j; unfold iblk; blk_simp
  refine congrArg _ (funext fun a => Fin.ext ?_)
  fin_cases a <;> simp [Window.blk] <;> decide +kernel

theorem iblk_3 : iblk m c 3 t0_0 = V m c main_call0_v51 := by
  funext j; unfold iblk; blk_simp
  refine congrArg _ (funext fun a => Fin.ext ?_)
  fin_cases a <;> simp [Window.blk] <;> decide +kernel

theorem iblk_4 : iblk m c 4 t0_0 = V m c main_call0_v53 := by
  funext j; unfold iblk; blk_simp
  refine congrArg _ (funext fun a => Fin.ext ?_)
  fin_cases a <;> simp [Window.blk] <;> decide +kernel

theorem iblk_5 : iblk m c 5 t0_0 = V m c main_call0_v55 := by
  funext j; unfold iblk; blk_simp
  refine congrArg _ (funext fun a => Fin.ext ?_)
  fin_cases a <;> simp [Window.blk] <;> decide +kernel

/-- What the body's store leaves, its loads and its store being of whole buffers. -/
theorem out_final {F : FTy → Type} [FloatOps F] (x0 : Vec F S32x512 .f32) (x1 : Vec F S32x1 .f32) (x2 : Vec F S32x512 .f32)
    (x3 : Vec F S128x32 .f32) (x4 : Vec F S128x128 .f32) (x5 : Vec F S32x128 .f32) :
    out0_6 x0 x1 x2 x3 x4 x5 = final x0 x1 x2 x3 x4 x5 := by
  have h2 : (![0, 0] : Fin 2 → ℕ) = fun _ => 0 := by decide
  unfold out0_6
  rw [View.canon_unit_zero h2, View.ld_unit_zero h2, View.ld_unit_zero h2, View.ld_unit_zero h2, View.ld_unit_zero h2,
    View.ld_unit_zero h2, View.ld_unit_zero h2]

/-- The output's array after the region: all the steps, from the six arrays as the region finds them. -/
theorem out_eq : (dats m 0 c).arrAt 6 cfg0.N = final (V m c main_call0_v43) (V m c main_call0_v6) (V m c main_call0_v40)
    (V m c main_call0_v51) (V m c main_call0_v53) (V m c main_call0_v55) := by
  refine (dats m 0 c).arrAt_eq_of_after_last 6 t0_0 (by decide +kernel) _ fun j => ?_
  blk_simp
  rw [after0_6, iblk_0, iblk_1, iblk_2, iblk_3, iblk_4, iblk_5, out_final]

theorem trips_eq : k0_t1_loop.trips = 512 := by decide +kernel

/-- A fold of one function over n rounds is its n-th iterate. -/
theorem fold_iterate {α : Type} (f : α → α) (a : α) (n : ℕ) : Scf.fold (n := n) (fun _ => f) a = f^[n] a := by
  rw [Scf.fold_eq]
  induction n with
  | zero => rfl
  | succ n ih => rw [List.finRange_succ_last, List.foldl_append, List.foldl_map, ih, Function.iterate_succ_apply']; rfl

variable {g : Fin 4 → EReal} {U : Fin 4 → ℕ → EReal} {γ : Fin 4 → ℝ} {u : Fin 4 → ℕ → ℝ} {k1 : Fin 4 → Fin 16 → EReal} {k2 : Fin 16 → Fin 16 → EReal}
  {k3 : Fin 16 → Fin 4 → EReal}

/-- The time loop, over arrays that hold the fields, the coefficients and the spread weights: the first step leaves
    real fields, whatever it starts from, and each later step starts from real fields. -/
theorem RepUE.final {X0 X2 : FVec Ideal S32x512 .f32} {X1 : FVec Ideal S32x1 .f32} {X3 : FVec Ideal S128x32 .f32}
    {X4 : FVec Ideal S128x128 .f32} {X5 : FVec Ideal S32x128 .f32} (hγ : ∀ c, Model.Gam (g c) (γ c))
    (hC : ∀ c, Model.Chan (g c) (U c) (γ c) (u c)) (hU : RepUE X0 U) (hG : RepG X1 g)
    (hA : RepUE X2 (fun c n => ((deg n * 256 : ℝ) : EReal) + g c)) (h1 : Spread (C := 4) (J := 16) X3 k1)
    (h2 : Spread (C := 16) (J := 16) X4 k2) (h3 : Spread (C := 16) (J := 4) X5 k3) :
    RepU (Step.final X0 X1 X2 X3 X4 X5) ((Model.step γ k1 k2 k3)^[512] u) := by
  have e : Step.final X0 X1 X2 X3 X4 X5 = (Step.stepK masks X1 X2 X3 X4 X5)^[512] X0 := by
    have p0 : k0_pay14 X0 = X0 := shapeCast_self _ _
    have p1 : k0_pay1072 X1 = X1 := shapeCast_self _ _
    have p2 : k0_pay1073 X2 = X2 := shapeCast_self _ _
    have p3 : k0_pay1074 X3 = X3 := shapeCast_self _ _
    have p4 : k0_pay1075 X4 = X4 := shapeCast_self _ _
    have p5 : k0_pay1076 X5 = X5 := shapeCast_self _ _
    unfold Step.final
    rw [p0, p1, p2, p3, p4, p5, fold_iterate, trips_eq]
  rw [e]
  have hk : ∀ k, RepU ((Step.stepK masks X1 X2 X3 X4 X5)^[k + 1] X0) ((Model.step γ k1 k2 k3)^[k + 1] u) := by
    intro k
    induction k with
    | zero => exact RepUE.stepK hC hG hA h1 h2 h3 hU
    | succ k ih =>
      rw [Function.iterate_succ_apply', Function.iterate_succ_apply' (Model.step γ k1 k2 k3)]
      exact RepUE.stepK (U' := fun c n => (((Model.step γ k1 k2 k3)^[k + 1] u c n : ℝ) : EReal))
        (fun c => (hγ c).real fun _ _ => rfl) hG hA h1 h2 h3 ih
  exact hk 511

/-- The program's result at a point: the output array's element there. -/
theorem result_apply (n : Fin 4096) (d : Fin 4) :
    Pipeline.afterTail₀ cfgs (dats m) 0 (V0 m) [hostOps1] c main_v0 (ix2 n d)
      = (dats m 0 c).arrAt 6 cfg0.N (ix2 (row d ⟨n.val / 512, by omega⟩) ⟨n.val % 512, by omega⟩) := by
  have hA : Pipeline.withArrays (cfgs 0).spec c (V0 m c) (fun w => (dats m 0 c).arrAt w (cfgs 0).N) (Proc.devRef .tc main_call0_v56)
      = (dats m 0 c).arrAt 6 cfg0.N :=
    Pipeline.withArrays_arr (cfgs 0).spec launch0.win.arr_inj c (V0 m c) (fun w => (dats m 0 c).arrAt w (cfgs 0).N) 6
  rw [← hA]
  unfold Pipeline.afterTail₀
  generalize Pipeline.withArrays (cfgs 0).spec c (V0 m c) (fun w => (dats m 0 c).arrAt w (cfgs 0).N) = V1
  after_reads_at
  refine congrArg _ (congrArg₂ ix2 (Fin.ext ?_) (Fin.ext ?_))
  · show d.val * 8 + n.val / 512 = 8 * d.val + n.val / 512
    omega
  · show n.val / 64 % 8 * 64 + n.val % 64 = n.val % 512
    omega

/-- The program's result: the fields after 512 time steps, point by point. -/
theorem result_eq (hγ : ∀ d, Model.Gam (g d) (γ d)) (hC : ∀ d, Model.Chan (g d) (U d) (γ d) (u d))
    (hg : ∀ d : Fin 4, Ideal.div 1 ((argScale m c (ix1 d) : EReal) * (Ideal.ofBits .f32 0x3C800000#32 : EReal)) = g d)
    (hu : ∀ (n : Fin 4096) (d : Fin 4), m (c, Proc.tc.devRef main_arg0) (ix2 n d) = U d n.val) (n : Fin 4096) (d : Fin 4) :
    Pipeline.afterTail₀ cfgs (dats m) 0 (V0 m) [hostOps1] c main_v0 (ix2 n d)
      = (((Model.step γ (fun i j => m (c, Proc.tc.devRef main_arg2) (ix2 i j))
          (fun i j => m (c, Proc.tc.devRef main_arg3) (ix2 i j))
          (fun i j => m (c, Proc.tc.devRef main_arg4) (ix2 i j)))^[512] u d n.val : ℝ) : EReal) := by
  rw [result_apply, out_eq]
  have e := RepUE.final hγ hC (rep_field m c hu) (rep_gamma m c hg) (rep_diag m c hg) (spread1 m c) (spread2 m c) (spread3 m c)
    d ⟨n.val / 512, by omega⟩ ⟨n.val % 512, by omega⟩
  rw [show 512 * (n.val / 512) + n.val % 512 = n.val from Nat.div_add_mod _ _] at e
  exact e

open Idealize.SL.Sem in
/-- The program's run leaves in the result's buffer what the host lines after the region put there. -/
theorem run_result (ρ : Dev nD → PrngReg) : θ_run defs (onTc (τ := τ) (main (F := Ideal))) ⟨m, fun _ => 0, ρ⟩ (fun r => ∀ c : Dev nD,
    r.2.mem ((c.tc : Thread nD τ).loc main_v0) = Pipeline.afterTail₀ cfgs (dats m) 0 (V0 m) [hostOps1] c main_v0) := by
  run_from run_main m ρ

end Cert.KernelIdeal.Step
-- ==== Proof.V.RefDef.lean ====
/- One time step of the reference, written compactly: one conjugate-gradient solve of twenty iterations, all four channels
   together, and the reaction term. -/
module

public import proofs.«01_k».proof.Proof.Gen.ReferenceIdeal

@[expose] public section

set_option maxRecDepth 65536

noncomputable section

namespace Cert.ReferenceIdeal.Step

open Idealize.ShloMosaic Idealize.SL.Sem
open Cert.ReferenceIdeal Cert.ReferenceIdeal.Gen

variable {F : FTy → Type} [FloatOps F]

/-- A number per channel, at every point of the grid. -/
def perChannel (g : FVec F S4 .f32) : FVec F S4096x4 .f32 :=
  broadcastInDim S4096x4 ![0, 1] bcast_S1x4_S4096x4_0_1 (broadcastInDim S1x4 ![1] bcast_S4_S1x4_1 g)

/-- A number per channel times an array. -/
def scaled (g : FVec F S4 .f32) (x : FVec F S4096x4 .f32) : FVec F S4096x4 .f32 := mulf (perChannel g) x

/-- The sum over the grid, channel by channel. -/
def total (z : FVec F S4096x4 .f32) : FVec F S4 .f32 :=
  Host.reduceAdd z (constant S_ .f32 0x00000000#32) reducesTo_S4096x4_S4_d0 h_S_

/-- The one-element table of a start index. -/
def at_ (k : BitVec 32) : IVec S1 32 := broadcastInDim S1 ![] bcast_S_S1 (constantI S_ 32 k)

/-- The differences of horizontal neighbours. -/
def diffX (v : FVec F S64x64x4 .f32) : FVec F S64x63x4 .f32 :=
  subf (extractStridedSlice S64x63x4 ![0, 1, 0] v slices_S64x64x4_S64x63x4_0_1_0)
    (extractStridedSlice S64x63x4 ![0, 0, 0] v slices_S64x64x4_S64x63x4_0_0_0)

/-- The differences of vertical neighbours. -/
def diffY (v : FVec F S64x64x4 .f32) : FVec F S63x64x4 .f32 :=
  subf (extractStridedSlice S63x64x4 ![1, 0, 0] v slices_S64x64x4_S63x64x4_1_0_0)
    (extractStridedSlice S63x64x4 ![0, 0, 0] v slices_S64x64x4_S63x64x4_0_0_0)

/-- Columns `k ..` of the square, `d` added. -/
def addX (k : BitVec 32) (v : FVec F S64x64x4 .f32) (d : FVec F S64x63x4 .f32) : FVec F S64x64x4 .f32 :=
  Host.scatter scatter_S64x64x4_S1_S64x63x4_012_n_1_0 FloatOps.addf v (at_ k) d

/-- Rows `k ..` of the square, `d` added. -/
def addY (k : BitVec 32) (v : FVec F S64x64x4 .f32) (d : FVec F S63x64x4 .f32) : FVec F S64x64x4 .f32 :=
  Host.scatter scatter_S64x64x4_S1_S63x64x4_012_n_0_0 FloatOps.addf v (at_ k) d

/-- Each point's differences to its neighbours, summed: every difference taken at one end and given at the other. -/
def fluxes (v : FVec F S64x64x4 .f32) : FVec F S64x64x4 .f32 :=
  addY 1#32 (addY 0#32 (addX 1#32 (addX 0#32 (broadcastInDim S64x64x4 ![] bcast_S_S64x64x4 (constant S_ .f32 0x00000000#32))
    (Host.negf (diffX v))) (diffX v)) (Host.negf (diffY v))) (diffY v)

/-- The operator. -/
def matvec (g : FVec F S4 .f32) (p : FVec F S4096x4 .f32) : FVec F S4096x4 .f32 :=
  addf (shapeCast S4096x4 (Host.divf (fluxes (shapeCast S64x64x4 p shapeCasts_S4096x4_S64x64x4))
      (broadcastInDim S64x64x4 ![] bcast_S_S64x64x4 (constant S_ .f32 0x3B800000#32))) shapeCasts_S64x64x4_S4096x4)
    (scaled g p)

/-- The guard 1e-30 in every channel. -/
def tiny : FVec F S4 .f32 := broadcastInDim S4 ![] bcast_S_S4 (constant S_ .f32 0x0DA24260#32)

/-- What the iteration carries. -/
structure St (F : FTy → Type) where
  x : FVec F S4096x4 .f32
  r : FVec F S4096x4 .f32
  p : FVec F S4096x4 .f32
  rs : FVec F S4 .f32

/-- The step length. -/
def St.alpha (g : FVec F S4 .f32) (s : St F) : FVec F S4 .f32 :=
  Host.divf s.rs (addf (total (mulf s.p (matvec g s.p))) tiny)

/-- The new approximation. -/
def St.xNew (g : FVec F S4 .f32) (s : St F) : FVec F S4096x4 .f32 := addf s.x (scaled (s.alpha g) s.p)

/-- The new residual. -/
def St.rNew (g : FVec F S4 .f32) (s : St F) : FVec F S4096x4 .f32 := subf s.r (scaled (s.alpha g) (matvec g s.p))

/-- The direction's coefficient. -/
def St.beta (g : FVec F S4 .f32) (s : St F) : FVec F S4 .f32 :=
  Host.divf (total (mulf (s.rNew g) (s.rNew g))) (addf s.rs tiny)

/-- One iteration. -/
def iter (g : FVec F S4 .f32) (s : St F) : St F where
  x := s.xNew g
  r := s.rNew g
  p := addf (s.rNew g) (scaled (s.beta g) s.p)
  rs := total (mulf (s.rNew g) (s.rNew g))

/-- The state the iteration starts from, for the right-hand side `b`. -/
def start (b : FVec F S4096x4 .f32) : St F where
  x := broadcastInDim S4096x4 ![] bcast_S_S4096x4 (constant S_ .f32 0x00000000#32)
  r := b
  p := b
  rs := total (mulf b b)

/-- `n` iterations. -/
def iters (g : FVec F S4 .f32) : ℕ → St F → St F
  | 0, s => s
  | n + 1, s => iter g (iters g n s)

/-- Twenty iterations' approximation of the system with right-hand side `g * u`. -/
def solve (g : FVec F S4 .f32) (u : FVec F S4096x4 .f32) : FVec F S4096x4 .f32 := (iters g 19 (start (scaled g u))).xNew g

/-- The reaction term's three layers, added to the diffused array. -/
def react (W1 : FVec F S4x16 .f32) (W2 : FVec F S16x16 .f32) (W3 : FVec F S16x4 .f32) (U : FVec F S4096x4 .f32) :
    FVec F S4096x4 .f32 :=
  addf U (mulf (broadcastInDim S4096x4 ![] bcast_S_S4096x4 (constant S_ .f32 0x3C800000#32))
    (Host.tanh (Host.dotGeneral dot_S4096x16_S16x4_S4096x4_1_0_0_1_n_n none
      (Host.tanh (Host.dotGeneral dot_S4096x16_S16x16_S4096x16_1_0_0_1_n_n none
        (Host.tanh (Host.dotGeneral dot_S4096x4_S4x16_S4096x16_1_0_0_1_n_n none U W1)) W2)) W3)))

/-- One time step. -/
def stepR (g : FVec F S4 .f32) (W1 : FVec F S4x16 .f32) (W2 : FVec F S16x16 .f32) (W3 : FVec F S16x4 .f32)
    (U : FVec F S4096x4 .f32) : FVec F S4096x4 .f32 := react W1 W2 W3 (solve g U)

end Cert.ReferenceIdeal.Step
-- ==== Proof.V.Scatter.lean ====
/- The reference's additions into a slice of the square: the square read at one element after `at[..].add`. -/
module

public import proofs.«01_k».proof.Proof.V.RefDef
public import Idealize.ShloMosaic.Lib.Routing.OpsPair
public import Idealize.ShloMosaic.Lib.Pointwise

@[expose] public section

noncomputable section

namespace Cert.ReferenceIdeal.Step

open Idealize.ShloMosaic
open Cert.ReferenceIdeal Cert.ReferenceIdeal.Gen

/-- A fold that takes up the elements meeting `P`, where none does. -/
theorem foldl_none {ι α : Type} (P : ι → Prop) [DecidablePred P] (f : α → ι → α) (L : List ι) (h : ∀ n ∈ L, ¬ P n) (a : α) :
    L.foldl (fun a n => if P n then f a n else a) a = a := by
  induction L generalizing a with
  | nil => rfl
  | cons n L ih =>
    rw [List.foldl_cons, if_neg (h n List.mem_cons_self)]
    exact ih (fun k hk => h k (List.mem_cons_of_mem _ hk)) a

/-- The same where exactly one does. -/
theorem foldl_one {ι α : Type} (P : ι → Prop) [DecidablePred P] (f : α → ι → α) (L : List ι) (hL : L.Nodup) (k : ι) (hk : k ∈ L)
    (hP : ∀ n, P n ↔ n = k) (a : α) : L.foldl (fun a n => if P n then f a n else a) a = f a k := by
  induction L generalizing a with
  | nil => cases hk
  | cons n L ih =>
    rw [List.foldl_cons]
    rw [List.nodup_cons] at hL
    by_cases e : n = k
    · subst e
      rw [if_pos ((hP n).2 rfl)]
      exact foldl_none P f L (fun q hq hh => hL.1 ((hP q).1 hh ▸ hq)) _
    · rw [if_neg fun hh => e ((hP n).1 hh)]
      exact ih hL.2 ((List.mem_cons.1 hk).resolve_left fun h => e h.symm) a

variable {α : Type} {s si u : Shape} {w : Nat} (d : ScatterDims s si u) (f : α → α → α) (x0 : s.Idx → α) (idx : IVec si w)
  (upd : u.Idx → α) (ι : s.Idx)

/-- An element at which no update lands stays. -/
theorem scatter_miss (h : ∀ k, ¬ d.resultIdx? k idx = some ι) : Host.scatter d f x0 idx upd ι = x0 ι := by
  rw [Routing.scatter_at]
  exact foldl_none (fun n => d.resultIdx? (u.rowMajor.symm n) idx = some ι) (fun a n => f a (upd (u.rowMajor.symm n))) _
    (fun n _ => h _) _

/-- An element at which the one update `k` lands takes it up. -/
theorem scatter_hit (k : u.Idx) (h : ∀ q, d.resultIdx? q idx = some ι ↔ q = k) :
    Host.scatter d f x0 idx upd ι = f (x0 ι) (upd k) := by
  rw [Routing.scatter_at]
  refine (foldl_one (fun n => d.resultIdx? (u.rowMajor.symm n) idx = some ι) (fun a n => f a (upd (u.rowMajor.symm n))) _
    (List.nodup_finRange _) (u.rowMajor k) (List.mem_finRange _) (fun n => ?_) _).trans ?_
  · rw [h]; exact Equiv.symm_apply_eq _
  · rw [Equiv.symm_apply_apply]

/-- Where an update of the columns lands. -/
theorem landsX (k : BitVec 32) (q : S64x63x4.Idx) (ι : S64x64x4.Idx) :
    scatter_S64x64x4_S1_S64x63x4_012_n_1_0.resultIdx? q (at_ k) = some ι
      ↔ (q 0).val = (ι 0).val ∧ k.toInt + (q 1).val = (ι 1).val ∧ (q 2).val = (ι 2).val := by
  rw [Routing.resultIdx?_eq_some]
  have e0 : scatter_S64x64x4_S1_S64x63x4_012_n_1_0.start q (at_ k) 0 = 0 := rfl
  have e1 : scatter_S64x64x4_S1_S64x63x4_012_n_1_0.start q (at_ k) 1 = k.toInt := rfl
  have e2 : scatter_S64x64x4_S1_S64x63x4_012_n_1_0.start q (at_ k) 2 = 0 := rfl
  have w0 : scatter_S64x64x4_S1_S64x63x4_012_n_1_0.window q 0 = (q 0).val := rfl
  have w1 : scatter_S64x64x4_S1_S64x63x4_012_n_1_0.window q 1 = (q 1).val := rfl
  have w2 : scatter_S64x64x4_S1_S64x63x4_012_n_1_0.window q 2 = (q 2).val := rfl
  constructor
  · intro h
    have h0 := h 0; have h1 := h 1; have h2 := h 2
    rw [e0, w0] at h0; rw [e1, w1] at h1; rw [e2, w2] at h2
    exact ⟨by omega, h1, by omega⟩
  · rintro ⟨h0, h1, h2⟩ a
    match a with
    | 0 => rw [e0, w0]; omega
    | 1 => rw [e1, w1]; exact h1
    | 2 => rw [e2, w2]; omega

/-- Where an update of the rows lands. -/
theorem landsY (k : BitVec 32) (q : S63x64x4.Idx) (ι : S64x64x4.Idx) :
    scatter_S64x64x4_S1_S63x64x4_012_n_0_0.resultIdx? q (at_ k) = some ι
      ↔ k.toInt + (q 0).val = (ι 0).val ∧ (q 1).val = (ι 1).val ∧ (q 2).val = (ι 2).val := by
  rw [Routing.resultIdx?_eq_some]
  have e0 : scatter_S64x64x4_S1_S63x64x4_012_n_0_0.start q (at_ k) 0 = k.toInt := rfl
  have e1 : scatter_S64x64x4_S1_S63x64x4_012_n_0_0.start q (at_ k) 1 = 0 := rfl
  have e2 : scatter_S64x64x4_S1_S63x64x4_012_n_0_0.start q (at_ k) 2 = 0 := rfl
  have w0 : scatter_S64x64x4_S1_S63x64x4_012_n_0_0.window q 0 = (q 0).val := rfl
  have w1 : scatter_S64x64x4_S1_S63x64x4_012_n_0_0.window q 1 = (q 1).val := rfl
  have w2 : scatter_S64x64x4_S1_S63x64x4_012_n_0_0.window q 2 = (q 2).val := rfl
  constructor
  · intro h
    have h0 := h 0; have h1 := h 1; have h2 := h 2
    rw [e0, w0] at h0; rw [e1, w1] at h1; rw [e2, w2] at h2
    exact ⟨h0, by omega, by omega⟩
  · rintro ⟨h0, h1, h2⟩ a
    match a with
    | 0 => rw [e0, w0]; exact h0
    | 1 => rw [e1, w1]; omega
    | 2 => rw [e2, w2]; omega

variable {F : FTy → Type} [FloatOps F] (v : FVec F S64x64x4 .f32) (y : Fin 64) (x : Fin 64) (c : Fin 4)

/-- Columns `k ..` of the square, added to. -/
theorem addX_apply (k : BitVec 32) (j : ℕ) (hk : k.toInt = j) (e : FVec F S64x63x4 .f32) :
    addX k v e (ix3 y x c) = if h : j ≤ x.val ∧ x.val - j < 63 then FloatOps.addf (v (ix3 y x c)) (e (ix3 y ⟨x.val - j, h.2⟩ c))
      else v (ix3 y x c) := by
  unfold addX
  by_cases h : j ≤ x.val ∧ x.val - j < 63
  · rw [dif_pos h]
    refine scatter_hit _ _ _ _ _ _ (ix3 y ⟨x.val - j, h.2⟩ c) fun q => ?_
    rw [landsX, hk]
    constructor
    · rintro ⟨h0, h1, h2⟩
      funext a
      apply Fin.ext
      match a with
      | 0 => exact h0
      | 1 =>
        show (q 1).val = x.val - j
        change (j : ℤ) + (q 1).val = x.val at h1
        omega
      | 2 => exact h2
    · rintro rfl
      refine ⟨rfl, ?_, rfl⟩
      show (j : ℤ) + (x.val - j : ℕ) = x.val
      omega
  · rw [dif_neg h]
    refine scatter_miss _ _ _ _ _ _ fun q hq => h ?_
    rw [landsX, hk] at hq
    have h1 : (j : ℤ) + (q 1).val = x.val := hq.2.1
    have h2 : (q 1).val < 63 := (q 1).isLt
    omega

/-- Rows `k ..` of the square, added to. -/
theorem addY_apply (k : BitVec 32) (j : ℕ) (hk : k.toInt = j) (e : FVec F S63x64x4 .f32) :
    addY k v e (ix3 y x c) = if h : j ≤ y.val ∧ y.val - j < 63 then FloatOps.addf (v (ix3 y x c)) (e (ix3 ⟨y.val - j, h.2⟩ x c))
      else v (ix3 y x c) := by
  unfold addY
  by_cases h : j ≤ y.val ∧ y.val - j < 63
  · rw [dif_pos h]
    refine scatter_hit _ _ _ _ _ _ (ix3 ⟨y.val - j, h.2⟩ x c) fun q => ?_
    rw [landsY, hk]
    constructor
    · rintro ⟨h0, h1, h2⟩
      funext a
      apply Fin.ext
      match a with
      | 0 =>
        show (q 0).val = y.val - j
        change (j : ℤ) + (q 0).val = y.val at h0
        omega
      | 1 => exact h1
      | 2 => exact h2
    · rintro rfl
      refine ⟨?_, rfl, rfl⟩
      show (j : ℤ) + (y.val - j : ℕ) = y.val
      omega
  · rw [dif_neg h]
    refine scatter_miss _ _ _ _ _ _ fun q hq => h ?_
    rw [landsY, hk] at hq
    have h1 : (j : ℤ) + (q 0).val = y.val := hq.1
    have h2 : (q 0).val < 63 := (q 0).isLt
    omega

end Cert.ReferenceIdeal.Step
-- ==== Proof.V.Ref.lean ====
/- What the reference's arrays hold.  Row `n` is the grid point `n = 64 y + x`, column `c` the channel.  Here: each of the
   reference's operations on an array that holds a real field leaves an array that holds the model's, channel by channel, up to the
   twenty iterations of one solve. -/
module

public import proofs.«01_k».proof.Proof.V.Scatter
public import proofs.«01_k».proof.Proof.V.Model

@[expose] public section

noncomputable section

namespace Cert.ReferenceIdeal.Step

open Idealize.ShloMosaic
open Cert.ReferenceIdeal Cert.ReferenceIdeal.Gen

/-- The array's channel `c` holds the field `x`. -/
def Rep (c : Fin 4) (X : FVec Ideal S4096x4 .f32) (x : ℕ → ℝ) : Prop :=
  ∀ n : Fin 4096, X (ix2 n c) = (x n.val : EReal)

/-- The vector's channel `c` holds the number `v`. -/
def RepC (c : Fin 4) (X : FVec Ideal S4 .f32) (v : ℝ) : Prop := X (ix1 c) = (v : EReal)

variable {c : Fin 4} {X Y : FVec Ideal S4096x4 .f32} {x y : ℕ → ℝ} {A B G : FVec Ideal S4 .f32} {a b γ : ℝ}

theorem Rep.add (hX : Rep c X x) (hY : Rep c Y y) : Rep c (addf X Y) (fun n => x n + y n) := fun n => by
  pointwise; rw [hX, hY, EReal.coe_add]

theorem Rep.sub (hX : Rep c X x) (hY : Rep c Y y) : Rep c (subf X Y) (fun n => x n - y n) := fun n => by
  pointwise; rw [hX, hY, EReal.coe_sub]

theorem Rep.mul (hX : Rep c X x) (hY : Rep c Y y) : Rep c (mulf X Y) (fun n => x n * y n) := fun n => by
  pointwise; rw [hX, hY, EReal.coe_mul]

theorem Rep.scaled (hA : RepC c A a) (hX : Rep c X x) : Rep c (scaled A X) (fun n => a * x n) := fun n => by
  pointwise [Step.scaled, perChannel]; rw [hX, hA, EReal.coe_mul]

theorem RepC.add (hA : RepC c A a) (hB : RepC c B b) : RepC c (addf A B) (a + b) := by
  unfold RepC; pointwise; rw [hA, hB, EReal.coe_add]

theorem RepC.div (hA : RepC c A a) (hB : RepC c B b) (h : b ≠ 0) : RepC c (Host.divf A B) (a / b) := by
  unfold RepC; pointwise; rw [hA, hB]; exact Model.div_coe_coe h _

theorem RepC.tiny : RepC c tiny Model.eps := by
  unfold RepC; pointwise [Step.tiny]; exact Model.lit_eps

/-- The sum over the grid. -/
theorem total_apply (X : FVec Ideal S4096x4 .f32) (c : Fin 4) : total X (ix1 c) = ∑ n : Fin 4096, (X (ix2 n c) : EReal) := by
  pointwise [Step.total]

theorem RepC.total (hX : Rep c X x) : RepC c (total X) (∑ n ∈ Finset.range 4096, x n) := by
  unfold RepC
  rw [total_apply, Finset.sum_range, ← Model.coe_sum]
  exact Finset.sum_congr rfl fun n _ => hX n

/-! ## The operator -/

/-- An addition into the columns, of real numbers. -/
theorem addX_real {v : FVec Ideal S64x64x4 .f32} {e : FVec Ideal S64x63x4 .f32} {y x : Fin 64} {c : Fin 4} {a : ℝ} {g : ℕ → ℝ}
    (k : BitVec 32) (j : ℕ) (hk : k.toInt = j) (hv : v (ix3 y x c) = (a : EReal)) (he : ∀ x : Fin 63, e (ix3 y x c) = (g x.val : EReal)) :
    addX k v e (ix3 y x c) = ((a + if j ≤ x.val ∧ x.val - j < 63 then g (x.val - j) else 0 : ℝ) : EReal) := by
  rw [addX_apply v y x c k j hk, hv]
  split_ifs with h
  · rw [he, EReal.coe_add]; rfl
  · rw [add_zero]

/-- An addition into the rows, of real numbers. -/
theorem addY_real {v : FVec Ideal S64x64x4 .f32} {e : FVec Ideal S63x64x4 .f32} {y x : Fin 64} {c : Fin 4} {a : ℝ} {g : ℕ → ℝ}
    (k : BitVec 32) (j : ℕ) (hk : k.toInt = j) (hv : v (ix3 y x c) = (a : EReal)) (he : ∀ y : Fin 63, e (ix3 y x c) = (g y.val : EReal)) :
    addY k v e (ix3 y x c) = ((a + if j ≤ y.val ∧ y.val - j < 63 then g (y.val - j) else 0 : ℝ) : EReal) := by
  rw [addY_apply v y x c k j hk, hv]
  split_ifs with h
  · rw [he, EReal.coe_add]; rfl
  · rw [add_zero]

/-- Four conditional additions at a point of the square are the two fluxes there. -/
theorem flux_sum (w : ℕ → ℝ) (y x : ℕ) (hy : y < 64) (hx : x < 64) :
    0 + (if 0 ≤ x ∧ x - 0 < 63 then w (64 * y + (x - 0)) - w (64 * y + (x - 0) + 1) else 0)
        + (if 1 ≤ x ∧ x - 1 < 63 then w (64 * y + (x - 1) + 1) - w (64 * y + (x - 1)) else 0)
        + (if 0 ≤ y ∧ y - 0 < 63 then w (64 * (y - 0) + x) - w (64 * (y - 0) + x + 64) else 0)
        + (if 1 ≤ y ∧ y - 1 < 63 then w (64 * (y - 1) + x + 64) - w (64 * (y - 1) + x) else 0)
      = Model.flux 1 Model.HasRight w (64 * y + x) + Model.flux 64 Model.HasBelow w (64 * y + x) := by
  have c1 : Model.HasRight (64 * y + x) ↔ (0 ≤ x ∧ x - 0 < 63) := by unfold Model.HasRight; omega
  have c2 : (1 ≤ 64 * y + x ∧ Model.HasRight (64 * y + x - 1)) ↔ (1 ≤ x ∧ x - 1 < 63) := by unfold Model.HasRight; omega
  have c3 : Model.HasBelow (64 * y + x) ↔ (0 ≤ y ∧ y - 0 < 63) := by unfold Model.HasBelow; omega
  have c4 : (64 ≤ 64 * y + x ∧ Model.HasBelow (64 * y + x - 64)) ↔ (1 ≤ y ∧ y - 1 < 63) := by unfold Model.HasBelow; omega
  unfold Model.flux
  rw [if_congr c1 rfl rfl, if_congr c2 rfl rfl, if_congr c3 rfl rfl, if_congr c4 rfl rfl]
  have h2 : (if 1 ≤ x ∧ x - 1 < 63 then w (64 * y + (x - 1) + 1) - w (64 * y + (x - 1)) else 0)
      = if 1 ≤ x ∧ x - 1 < 63 then w (64 * y + x) - w (64 * y + x - 1) else 0 := by
    refine if_ctx_congr Iff.rfl (fun h => ?_) fun _ => rfl
    rw [show 64 * y + (x - 1) + 1 = 64 * y + x by omega, show 64 * y + (x - 1) = 64 * y + x - 1 by omega]
  have h4 : (if 1 ≤ y ∧ y - 1 < 63 then w (64 * (y - 1) + x + 64) - w (64 * (y - 1) + x) else 0)
      = if 1 ≤ y ∧ y - 1 < 63 then w (64 * y + x) - w (64 * y + x - 64) else 0 := by
    refine if_ctx_congr Iff.rfl (fun h => ?_) fun _ => rfl
    rw [show 64 * (y - 1) + x + 64 = 64 * y + x by omega, show 64 * (y - 1) + x = 64 * y + x - 64 by omega]
  rw [h2, h4]
  simp only [Nat.sub_zero]
  ring

/-- The square's differences, summed at each point. -/
theorem fluxes_apply {v : FVec Ideal S64x64x4 .f32} {w : ℕ → ℝ} {c : Fin 4}
    (hv : ∀ y x : Fin 64, v (ix3 y x c) = (w (64 * y.val + x.val) : EReal)) (y x : Fin 64) :
    fluxes v (ix3 y x c)
      = ((Model.flux 1 Model.HasRight w (64 * y.val + x.val) + Model.flux 64 Model.HasBelow w (64 * y.val + x.val) : ℝ) : EReal) := by
  have hx : ∀ (y : Fin 64) (x : Fin 63), diffX v (ix3 y x c) = ((w (64 * y.val + x.val + 1) - w (64 * y.val + x.val) : ℝ) : EReal) :=
    fun y x => by
      pointwise [diffX]
      rw [hv, hv, EReal.coe_sub]
      exact congrArg (fun k => (w k : EReal) - _) (show 64 * y.val + (1 + x.val) = _ by omega)
  have hy : ∀ (y : Fin 63) (x : Fin 64), diffY v (ix3 y x c) = ((w (64 * y.val + x.val + 64) - w (64 * y.val + x.val) : ℝ) : EReal) :=
    fun y x => by
      pointwise [diffY]
      rw [hv, hv, EReal.coe_sub]
      exact congrArg (fun k => (w k : EReal) - _) (show 64 * (1 + y.val) + x.val = _ by omega)
  have hnx : ∀ (y : Fin 64) (x : Fin 63), Host.negf (diffX v) (ix3 y x c) = ((w (64 * y.val + x.val) - w (64 * y.val + x.val + 1) : ℝ) : EReal) :=
    fun y x => by pointwise; rw [hx, ← EReal.coe_neg, neg_sub]
  have hny : ∀ (y : Fin 63) (x : Fin 64), Host.negf (diffY v) (ix3 y x c) = ((w (64 * y.val + x.val) - w (64 * y.val + x.val + 64) : ℝ) : EReal) :=
    fun y x => by pointwise; rw [hy, ← EReal.coe_neg, neg_sub]
  have hz : broadcastInDim S64x64x4 ![] bcast_S_S64x64x4 (constant (F := Ideal) S_ .f32 0x00000000#32) (ix3 y x c) = ((0 : ℝ) : EReal) := by
    pointwise; rfl
  rw [← flux_sum w y.val x.val y.isLt x.isLt]
  exact addY_real (g := fun k => w (64 * k + x.val + 64) - w (64 * k + x.val)) 1#32 1 (by decide)
    (addY_real (g := fun k => w (64 * k + x.val) - w (64 * k + x.val + 64)) 0#32 0 (by decide)
      (addX_real (g := fun k => w (64 * y.val + k + 1) - w (64 * y.val + k)) 1#32 1 (by decide)
        (addX_real (g := fun k => w (64 * y.val + k) - w (64 * y.val + k + 1)) 0#32 0 (by decide) hz fun x' => hnx y x') fun x' => hx y x')
      fun y' => hny y' x) fun y' => hy y' x

/-- The operator. -/
theorem RepC.matvec (hG : RepC c G γ) (hX : Rep c X x) : Rep c (matvec G X) (Model.op γ x) := fun n => by
  have hv : ∀ y x' : Fin 64, shapeCast S64x64x4 X shapeCasts_S4096x4_S64x64x4 (ix3 y x' c) = (x (64 * y.val + x'.val) : EReal) := fun y x' => by
    pointwise
    rw [hX]
    exact congrArg (fun k => (x k : EReal)) (show y.val * 64 + x'.val = _ by omega)
  have hs := hX.scaled hG n
  have hf := fluxes_apply hv ⟨n.val / 64, by omega⟩ ⟨n.val % 64, by omega⟩
  rw [show 64 * (n.val / 64) + n.val % 64 = n.val from Nat.div_add_mod _ _] at hf
  unfold Step.matvec
  generalize fluxes (shapeCast S64x64x4 X shapeCasts_S4096x4_S64x64x4) = Z at hf
  generalize Step.scaled G X = Z' at hs
  pointwise
  rw [hf, hs, Model.lit_hh, Model.div_coe_coe (by norm_num), ← EReal.coe_add]
  refine congrArg _ ?_
  unfold Model.op
  ring

/-! ## The iteration -/

/-- The carried arrays' channel `c` holds the model's carried fields. -/
structure RepSt (c : Fin 4) (S : St Ideal) (s : Model.St) : Prop where
  x : Rep c S.x s.x
  r : Rep c S.r s.r
  p : Rep c S.p s.p
  rs : RepC c S.rs s.rs

variable {S : St Ideal} {s : Model.St}

theorem RepSt.alpha (hγ : 0 ≤ γ) (hG : RepC c G γ) (h : RepSt c S s) : RepC c (S.alpha G) (s.alpha γ) :=
  h.rs.div ((RepC.total (h.p.mul (hG.matvec h.p))).add RepC.tiny)
    (ne_of_gt (add_pos_of_nonneg_of_pos (Model.dot_op_nonneg hγ s.p) Model.eps_pos))

theorem RepSt.xNew (hγ : 0 ≤ γ) (hG : RepC c G γ) (h : RepSt c S s) : Rep c (S.xNew G) (s.xNew γ) :=
  h.x.add (h.p.scaled (h.alpha hγ hG))

theorem RepSt.rNew (hγ : 0 ≤ γ) (hG : RepC c G γ) (h : RepSt c S s) : Rep c (S.rNew G) (s.rNew γ) :=
  h.r.sub ((hG.matvec h.p).scaled (h.alpha hγ hG))

theorem RepSt.beta (hγ : 0 ≤ γ) (hG : RepC c G γ) (hs : 0 ≤ s.rs) (h : RepSt c S s) : RepC c (S.beta G) (s.beta γ) :=
  (RepC.total ((h.rNew hγ hG).mul (h.rNew hγ hG))).div (h.rs.add RepC.tiny)
    (ne_of_gt (add_pos_of_nonneg_of_pos hs Model.eps_pos))

/-- One iteration. -/
theorem RepSt.iter (hγ : 0 ≤ γ) (hG : RepC c G γ) (hs : 0 ≤ s.rs) (h : RepSt c S s) : RepSt c (iter G S) (s.next γ) where
  x := h.xNew hγ hG
  r := h.rNew hγ hG
  p := (h.rNew hγ hG).add (h.p.scaled (h.beta hγ hG hs))
  rs := RepC.total ((h.rNew hγ hG).mul (h.rNew hγ hG))

/-- Where the iteration starts. -/
theorem RepSt.start (hX : Rep c X x) : RepSt c (start X) (Model.start x) where
  x := fun n => by pointwise [Step.start, Model.start]; rfl
  r := hX
  p := hX
  rs := RepC.total (hX.mul hX)

/-- All the iterations. -/
theorem RepSt.iters (hγ : 0 ≤ γ) (hG : RepC c G γ) (hX : Rep c X x) (k : ℕ) :
    RepSt c (iters G k (Step.start X)) (Model.iters γ x k) := by
  induction k with
  | zero => exact RepSt.start hX
  | succ k ih => exact ih.iter hγ hG (Model.iters_rs_nonneg γ x k)

/-- One channel's solve. -/
theorem Rep.solve (hγ : 0 ≤ γ) (hG : RepC c G γ) (hX : Rep c X x) : Rep c (solve G X) (Model.solve γ x) :=
  (RepSt.iters hγ hG (hX.scaled hG) 19).xNew hγ hG

end Cert.ReferenceIdeal.Step
-- ==== Proof.V.RefStill.lean ====
/- One time step of the reference, whatever extended reals its fields hold: where a channel's right-hand side is zero, or
   infinite at a point, its step lengths and coefficients are zero and its solve is at zero; then the reaction. -/
module

public import proofs.«01_k».proof.Proof.V.Ref
public import proofs.«01_k».proof.Proof.V.Channel

@[expose] public section

noncomputable section

namespace Cert.ReferenceIdeal.Step

open Idealize.ShloMosaic
open Cert.ReferenceIdeal Cert.ReferenceIdeal.Gen
open Cert.Model (Inf)

variable {c : Fin 4} {G : FVec Ideal S4 .f32} {X Z : FVec Ideal S4096x4 .f32} {g : EReal} {b U : ℕ → EReal} {S : St Ideal}

/-- The array's channel `c` holds the extended reals `U`. -/
def RepE (c : Fin 4) (X : FVec Ideal S4096x4 .f32) (U : ℕ → EReal) : Prop := ∀ n : Fin 4096, X (ix2 n c) = U n.val

/-- The channel's carried arrays are those the iteration starts from. -/
structure StillSt (c : Fin 4) (S : St Ideal) (b : ℕ → EReal) : Prop where
  x : ∀ n : Fin 4096, S.x (ix2 n c) = (0 : EReal)
  r : RepE c S.r b
  p : RepE c S.p b
  rs : S.rs (ix1 c) = ∑ n : Fin 4096, b n.val * b n.val

/-- The operator is infinite where the array is, the channel's number being positive. -/
theorem matvec_inf (hG : G (ix1 c) = g) (hg : 0 < g) {n : Fin 4096} (h : Inf (X (ix2 n c))) : Inf (matvec G X (ix2 n c)) := by
  have hs : Inf (scaled G X (ix2 n c)) := by
    pointwise [Step.scaled, perChannel]
    rw [hG]
    exact h.mul_left hg.ne'
  unfold Step.matvec
  generalize Step.scaled G X = Z at hs
  generalize Host.divf (fluxes (shapeCast S64x64x4 X shapeCasts_S4096x4_S64x64x4)) _ = Z'
  pointwise
  exact hs.add_left _

theorem tiny_add (A : FVec Ideal S4 .f32) : addf A tiny (ix1 c) = (A (ix1 c) : EReal) + (Model.eps : EReal) := by
  pointwise [Step.tiny]; rw [Model.lit_eps]

/-- A quotient by a sum with the guard is zero where the dividend and the sum are zero, or the sum is infinite. -/
theorem div_still {A D : FVec Ideal S4 .f32} (h : (A (ix1 c) = (0 : EReal) ∧ D (ix1 c) = (0 : EReal)) ∨ Inf (D (ix1 c))) :
    Host.divf A (addf D tiny) (ix1 c) = (0 : EReal) := by
  have e : Host.divf A (addf D tiny) (ix1 c) = Ideal.div (A (ix1 c)) ((D (ix1 c) : EReal) + (Model.eps : EReal)) := by
    rw [← tiny_add]; pointwise
  rw [e]
  rcases h with ⟨h1, h2⟩ | h
  · rw [h1, h2, zero_add, ← EReal.coe_zero, Model.div_coe_coe Model.eps_pos.ne', zero_div]
  · exact Model.div_inf (h.add _) _

/-- A product's sum, where one factor is a right-hand side that is zero. -/
theorem total_zero (hX : RepE c X b) (hz : ∀ n < 4096, b n = 0) (Z : FVec Ideal S4096x4 .f32) :
    total (mulf X Z) (ix1 c) = (0 : EReal) := by
  rw [total_apply]
  exact Finset.sum_eq_zero fun n _ => by pointwise; rw [hX, hz _ n.isLt, zero_mul]

/-- A product's sum, where both factors are infinite at one point. -/
theorem total_inf {n : Fin 4096} (hX : Inf (X (ix2 n c))) (hZ : Inf (Z (ix2 n c))) : Inf (total (mulf X Z) (ix1 c)) := by
  rw [total_apply]
  refine Inf.sum n ?_
  pointwise
  exact hX.mul hZ.ne_zero

/-- The product of the direction and the operator there, and the residual's square: both zero, or both infinite. -/
theorem sums_still (hG : G (ix1 c) = g) (hS : Model.Still g b) (hX : RepE c X b) (hZ : RepE c Z b) :
    (total (mulf Z Z) (ix1 c) = (0 : EReal) ∧ total (mulf X (matvec G X)) (ix1 c) = (0 : EReal))
      ∨ (Inf (total (mulf Z Z) (ix1 c)) ∧ Inf (total (mulf X (matvec G X)) (ix1 c))) := by
  rcases hS with hz | ⟨hg, n, hn, hI⟩
  · exact .inl ⟨total_zero hZ hz _, total_zero hX hz _⟩
  · have hI' : ∀ {W : FVec Ideal S4096x4 .f32}, RepE c W b → Inf (W (ix2 (⟨n, hn⟩ : Fin 4096) c)) := fun h => by
      rw [h]; exact hI
    exact .inr ⟨total_inf (hI' hZ) (hI' hZ), total_inf (hI' hX) (matvec_inf hG hg (hI' hX))⟩

theorem total_square (hX : RepE c X b) : total (mulf X X) (ix1 c) = ∑ n : Fin 4096, b n.val * b n.val := by
  rw [total_apply]
  exact Finset.sum_congr rfl fun n _ => by pointwise; rw [hX]

/-- Nothing is added or taken by an array at coefficient zero. -/
theorem add_scaled {A : FVec Ideal S4 .f32} (h : A (ix1 c) = (0 : EReal)) (X Z : FVec Ideal S4096x4 .f32) (n : Fin 4096) :
    addf X (scaled A Z) (ix2 n c) = X (ix2 n c) := by
  pointwise [Step.scaled, perChannel]; rw [h, zero_mul, add_zero]

theorem sub_scaled {A : FVec Ideal S4 .f32} (h : A (ix1 c) = (0 : EReal)) (X Z : FVec Ideal S4096x4 .f32) (n : Fin 4096) :
    subf X (scaled A Z) (ix2 n c) = X (ix2 n c) := by
  pointwise [Step.scaled, perChannel]; rw [h, zero_mul, sub_zero]

theorem StillSt.alpha (hG : G (ix1 c) = g) (hS : Model.Still g b) (h : StillSt c S b) : S.alpha G (ix1 c) = (0 : EReal) := by
  refine div_still ((sums_still hG hS h.p h.r).imp (fun e => ⟨?_, e.2⟩) (fun e => e.2))
  rw [h.rs, ← total_square h.r]
  exact e.1

theorem StillSt.rNew (hG : G (ix1 c) = g) (hS : Model.Still g b) (h : StillSt c S b) : RepE c (S.rNew G) b := fun n =>
  (sub_scaled (h.alpha hG hS) _ _ n).trans (h.r n)

theorem StillSt.beta (hG : G (ix1 c) = g) (hS : Model.Still g b) (h : StillSt c S b) : S.beta G (ix1 c) = (0 : EReal) := by
  have hr := h.rNew hG hS
  refine div_still ((sums_still hG hS h.p hr).imp (fun e => ⟨e.1, ?_⟩) (fun e => ?_))
  · rw [h.rs, ← total_square hr]; exact e.1
  · rw [h.rs, ← total_square hr]; exact e.1

theorem StillSt.xNew (hG : G (ix1 c) = g) (hS : Model.Still g b) (h : StillSt c S b) : Rep c (S.xNew G) (fun _ => 0) := fun n =>
  (add_scaled (h.alpha hG hS) _ _ n).trans (h.x n)

/-- The iterations leave the channel as it is. -/
theorem StillSt.iters (hG : G (ix1 c) = g) (hS : Model.Still g b) (hX : RepE c X b) (k : ℕ) :
    StillSt c (iters G k (start X)) b := by
  induction k with
  | zero =>
    refine ⟨fun n => ?_, hX, hX, total_square hX⟩
    show (start X).x (ix2 n c) = _
    pointwise [Step.start]
  | succ k ih =>
    exact ⟨fun n => ih.xNew hG hS n, ih.rNew hG hS, fun n => (add_scaled (ih.beta hG hS) _ _ n).trans (ih.rNew hG hS n),
      total_square (ih.rNew hG hS)⟩

/-- One channel's solve, for a channel that stands for one of the model's. -/
theorem RepE.solve {γ : ℝ} {u : ℕ → ℝ} (hC : Model.Chan g U γ u) (hG : G (ix1 c) = g) (hX : RepE c X U) :
    Rep c (solve G X) (Model.solve γ u) := by
  rcases hC with ⟨hγ, rfl, hu⟩ | ⟨hS, h0⟩
  · exact Rep.solve hγ hG (fun n => (hX n).trans (hu _ n.isLt))
  · rw [funext (Model.solve_zero h0)]
    refine StillSt.xNew hG hS (StillSt.iters hG hS (fun n => ?_) 19)
    pointwise [Step.scaled, perChannel]
    rw [hG, hX]

/-! ## The reaction, and one step -/

variable {x : Fin 4 → ℕ → ℝ}

/-- The reaction term, added to the diffused fields. -/
theorem Rep.react (W1 : FVec Ideal S4x16 .f32) (W2 : FVec Ideal S16x16 .f32) (W3 : FVec Ideal S16x4 .f32)
    (hX : ∀ c, Rep c X (x c)) (c : Fin 4) :
    Rep c (react W1 W2 W3 X) (fun n => x c n + 1 / 64 * (Model.react (fun i j => W1 (ix2 i j)) (fun i j => W2 (ix2 i j))
      (fun i j => W3 (ix2 i j)) (fun d => (x d n : EReal)) c).toReal) := fun n => by
  have hX' : ∀ d, X (ix2 n d) = (x d n.val : EReal) := fun d => hX d n
  pointwise [Step.react]
  simp only [hX']
  rw [EReal.coe_add, EReal.coe_mul, ← Model.lit_dt]
  have hR : ((Model.react (fun i j => W1 (ix2 i j)) (fun i j => W2 (ix2 i j)) (fun i j => W3 (ix2 i j))
      (fun d => (x d n : EReal)) c).toReal : EReal) = Model.react (fun i j => W1 (ix2 i j)) (fun i j => W2 (ix2 i j))
      (fun i j => W3 (ix2 i j)) (fun d => (x d n : EReal)) c := (Model.tanh_real _).symm
  rw [hR]
  rfl

/-- One time step. -/
theorem RepE.stepR (W1 : FVec Ideal S4x16 .f32) (W2 : FVec Ideal S16x16 .f32) (W3 : FVec Ideal S16x4 .f32)
    {g : Fin 4 → EReal} {U : Fin 4 → ℕ → EReal} {γ : Fin 4 → ℝ} {u : Fin 4 → ℕ → ℝ}
    (hC : ∀ c, Model.Chan (g c) (U c) (γ c) (u c)) (hG : ∀ c, G (ix1 c) = g c) (hX : ∀ c, RepE c X (U c)) (c : Fin 4) :
    Rep c (stepR G W1 W2 W3 X) (Model.step γ (fun i j => W1 (ix2 i j)) (fun i j => W2 (ix2 i j)) (fun i j => W3 (ix2 i j)) u c) :=
  Rep.react W1 W2 W3 (x := fun c => Model.solve (γ c) (u c)) (fun c => RepE.solve (hC c) (hG c) (hX c)) c

end Cert.ReferenceIdeal.Step
-- ==== Proof.V.RefEq.lean ====
/- One trip of the reference's time loop is one call of `stepR`. -/
module

public import proofs.«01_k».proof.Proof.V.RefDef
public import proofs.«01_k».proof.Proof.Gen.ReferenceIdeal.Run

@[expose] public section

set_option maxRecDepth 65536

noncomputable section

namespace Cert.ReferenceIdeal.Step

open Idealize.ShloMosaic Idealize.SL.Sem
open Cert.ReferenceIdeal Cert.ReferenceIdeal.Gen Cert.ReferenceIdeal.Value

variable {F : FTy → Type} [FloatOps F]

set_option maxHeartbeats 4000000 in
/-- The trip's new field, from the buffers it carries. -/
theorem step_eq (V0 : Valuation τ sig (Elt F)) :
    step_main_v4_5 V0 = stepR (V0 (Proc.devRef .tc main_v4_0)) (V0 (Proc.devRef .tc main_v4_1))
      (V0 (Proc.devRef .tc main_v4_2)) (V0 (Proc.devRef .tc main_v4_3)) (V0 (Proc.devRef .tc main_v4_5)) :=
  rfl

end Cert.ReferenceIdeal.Step
-- ==== Proof.V.RefValue.lean ====
/- What the reference's run leaves: the four fields after 512 time steps. -/
module

public import proofs.«01_k».proof.Proof.V.RefStill
public import proofs.«01_k».proof.Proof.V.RefEq
public import Idealize.ShloMosaic.Lib.StableHlo.ReadAt

@[expose] public section

set_option maxRecDepth 16384

noncomputable section

namespace Cert.ReferenceIdeal.Step

open Idealize.ShloMosaic Idealize.ShloMosaic.TcCoe Idealize.SL.Sem
open Cert.ReferenceIdeal Cert.ReferenceIdeal.Gen Cert.ReferenceIdeal.Value
open Idealize.ShloMosaic.StableHlo (entryContents)

variable {g : Fin 4 → EReal} {U : Fin 4 → ℕ → EReal} {γ : Fin 4 → ℝ} {u : Fin 4 → ℕ → ℝ}

/-- Any number of trips but none, from contents that hold the fields and the numbers `g`: the first trip leaves real fields,
    whatever it starts from, and each later trip starts from real fields. -/
theorem trips (V0 : Valuation τ sig (Elt Ideal)) (hγ : ∀ c, Model.Gam (g c) (γ c))
    (hC : ∀ c, Model.Chan (g c) (U c) (γ c) (u c)) (hG : ∀ c, V0 (Proc.devRef .tc main_v4_0) (ix1 c) = g c)
    (hU : ∀ c, RepE c (V0 (Proc.devRef .tc main_v4_5)) (U c)) (k : ℕ) :
    (STEP^[k + 1] V0) (Proc.devRef .tc main_v4_0) = V0 (Proc.devRef .tc main_v4_0)
      ∧ (STEP^[k + 1] V0) (Proc.devRef .tc main_v4_1) = V0 (Proc.devRef .tc main_v4_1)
      ∧ (STEP^[k + 1] V0) (Proc.devRef .tc main_v4_2) = V0 (Proc.devRef .tc main_v4_2)
      ∧ (STEP^[k + 1] V0) (Proc.devRef .tc main_v4_3) = V0 (Proc.devRef .tc main_v4_3)
      ∧ ∀ c, Rep c ((STEP^[k + 1] V0) (Proc.devRef .tc main_v4_5))
          ((Model.step γ (fun i j => V0 (Proc.devRef .tc main_v4_1) (ix2 i j))
          (fun i j => V0 (Proc.devRef .tc main_v4_2) (ix2 i j)) (fun i j => V0 (Proc.devRef .tc main_v4_3) (ix2 i j)))^[k + 1] u c) := by
  induction k with
  | zero =>
    refine ⟨STEP_main_v4_0 _, STEP_main_v4_1 _, STEP_main_v4_2 _, STEP_main_v4_3 _, ?_⟩
    rw [Function.iterate_one, STEP_main_v4_5, step_eq]
    exact RepE.stepR _ _ _ hC hG hU
  | succ k ih =>
    obtain ⟨h0, h1, h2, h3, h5⟩ := ih
    rw [Function.iterate_succ_apply' STEP]
    refine ⟨(STEP_main_v4_0 _).trans h0, (STEP_main_v4_1 _).trans h1, (STEP_main_v4_2 _).trans h2, (STEP_main_v4_3 _).trans h3, ?_⟩
    rw [STEP_main_v4_5, step_eq, h0, h1, h2, h3, Function.iterate_succ_apply' (Model.step γ _ _ _)]
    exact RepE.stepR _ _ _ (fun c => (hγ c).real fun _ _ => rfl) hG h5

variable (m : (ℓ : Loc nD τ sig) → Buf (Elt Ideal) ℓ) (c : Dev nD)

/-- The diffusion scale the program is given. -/
abbrev argScale : FVec Ideal S4 .f32 := m (c, Proc.tc.devRef main_arg1)

theorem entry_gamma
    (hg : ∀ d : Fin 4, Ideal.div 1 ((argScale m c (ix1 d) : EReal) * (Ideal.ofBits .f32 0x3C800000#32 : EReal)) = g d)
    (d : Fin 4) : entryContents preI m c (Proc.devRef .tc main_v4_0) (ix1 d) = g d := by
  rw [← hg]
  show StableHlo.after hostOps0 _ (Proc.devRef .tc main_v4_0) (ix1 d) = _
  after_reads_at
  change Host.divf (broadcastInDim S4 ![] bcast_S_S4 (constant S_ .f32 0x3F800000#32))
    (mulf (argScale m c) (broadcastInDim S4 ![] bcast_S_S4 (constant S_ .f32 0x3C800000#32))) (ix1 d) = _
  pointwise

theorem entry_k1 : entryContents preI m c (Proc.devRef .tc main_v4_1) = m (c, Proc.tc.devRef main_arg2) := by
  show StableHlo.after hostOps0 _ (Proc.devRef .tc main_v4_1) = _
  funext i
  after_reads_at
  rfl

theorem entry_k2 : entryContents preI m c (Proc.devRef .tc main_v4_2) = m (c, Proc.tc.devRef main_arg3) := by
  show StableHlo.after hostOps0 _ (Proc.devRef .tc main_v4_2) = _
  funext i
  after_reads_at
  rfl

theorem entry_k3 : entryContents preI m c (Proc.devRef .tc main_v4_3) = m (c, Proc.tc.devRef main_arg4) := by
  show StableHlo.after hostOps0 _ (Proc.devRef .tc main_v4_3) = _
  funext i
  after_reads_at
  rfl

theorem entry_field : entryContents preI m c (Proc.devRef .tc main_v4_5) = m (c, Proc.tc.devRef main_arg0) := by
  show StableHlo.after hostOps0 _ (Proc.devRef .tc main_v4_5) = _
  funext i
  after_reads_at
  rfl

/-- The program's result: the fields after 512 time steps, point by point. -/
theorem result_eq (hγ : ∀ d, Model.Gam (g d) (γ d)) (hC : ∀ d, Model.Chan (g d) (U d) (γ d) (u d))
    (hg : ∀ d : Fin 4, Ideal.div 1 ((argScale m c (ix1 d) : EReal) * (Ideal.ofBits .f32 0x3C800000#32 : EReal)) = g d)
    (hu : ∀ (n : Fin 4096) (d : Fin 4), m (c, Proc.tc.devRef main_arg0) (ix2 n d) = U d n.val) (n : Fin 4096) (d : Fin 4) :
    (STEP^[512] (entryContents preI m c)) (Proc.devRef .tc main_v4_5) (ix2 n d)
      = (((Model.step γ (fun i j => m (c, Proc.tc.devRef main_arg2) (ix2 i j))
          (fun i j => m (c, Proc.tc.devRef main_arg3) (ix2 i j))
          (fun i j => m (c, Proc.tc.devRef main_arg4) (ix2 i j)))^[512] u d n.val : ℝ) : EReal) := by
  have e := (trips (entryContents preI m c) hγ hC (entry_gamma m c hg)
    (fun d n => by rw [entry_field]; exact hu n d) 511).2.2.2.2 d n
  rw [entry_k1, entry_k2, entry_k3] at e
  exact e

end Cert.ReferenceIdeal.Step
-- ==== Proof.V.Pre.lean ====
/- What the precondition gives: each channel's number `g` is a real number that is not negative, or it is infinite. -/
module

public import proofs.«01_k».proof.Pre_scale_nonneg
public import proofs.«01_k».proof.Proof.V.Channel
public import Idealize.ShloMosaic.Lib.Pointwise

@[expose] public section

noncomputable section

namespace Cert.Pre_scale_nonneg

open Idealize.ShloMosaic

/-- The predicate's side conditions. -/
theorem facts : Facts where
  bcast_S_S4 := by decide

variable [Facts]

/-- A flag that is set says its proposition. -/
theorem of_flag {p : Prop} [Decidable p] (h : BitVec.ofBool (decide p) = 1#1) : p := by
  by_contra hp
  rw [decide_eq_false hp] at h
  exact absurd h (by decide)

variable (a0 : FVec Ideal S4096x4 .f32) (a1 : FVec Ideal S4 .f32) (a2 : FVec Ideal S4x16 .f32) (a3 : FVec Ideal S16x16 .f32)
  (a4 : FVec Ideal S16x4 .f32)

/-- No channel's scale is below zero. -/
theorem pre_scale (h : fn a0 a1 a2 a3 a4 = fun _ => 1#1) (d : Fin 4) : (0 : EReal) ≤ a1 (ix1 d) := by
  have e := congrFun h (ix1 d)
  revert e
  pointwise [fn]
  exact of_flag

omit [Facts] in
/-- So every channel's `g` is a real number that is not negative (zero where the scale is infinite), or infinite (where the
    scale is zero). -/
theorem gam (a : EReal) (h : 0 ≤ a) : ∃ γ : ℝ, Model.Gam (Ideal.div 1 (a * (Ideal.ofBits .f32 0x3C800000#32 : EReal))) γ := by
  rw [Model.lit_dt]
  induction a with
  | bot => simp at h
  | top =>
    refine ⟨0, .inl ⟨le_rfl, ?_⟩⟩
    rw [EReal.top_mul_coe_of_pos (by norm_num)]
    simp [Ideal.div]
  | coe x =>
    rw [← EReal.coe_mul]
    rcases (EReal.coe_nonneg.1 h).eq_or_lt with rfl | hx
    · refine ⟨0, .inr ⟨?_, rfl⟩⟩
      simp [Ideal.div]
    · refine ⟨1 / (x * (1 / 64)), .inl ⟨by positivity, ?_⟩⟩
      rw [← EReal.coe_one]
      exact Model.div_coe_coe (by positivity) 1

end Cert.Pre_scale_nonneg
-- ==== Proof.V.Algebraic.lean ====
/- The equation: from memories that agree on the arguments, under the precondition, the kernel and the reference end with the
   same result, the four fields after 512 time steps. -/
module

public import proofs.«01_k».proof.Defs
public import proofs.«01_k».proof.Proof.V.KernelValue
public import proofs.«01_k».proof.Proof.V.RefValue
public import proofs.«01_k».proof.Proof.V.Pre

@[expose] public section

set_option maxRecDepth 16384

noncomputable section

namespace Cert.Proof

open Idealize.ShloMosaic Idealize.ShloMosaic.TcCoe Idealize.SL.Sem

/-- The two results are the same array. -/
theorem results_eq [Cert.Pre_scale_nonneg.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_scale_nonneg m) (c : Dev Cert.KernelIdeal.nD)
    (h0 : m' (c, Proc.tc.devRef Cert.ReferenceIdeal.main_arg0) = m (c, Proc.tc.devRef Cert.KernelIdeal.main_arg0))
    (h1 : m' (c, Proc.tc.devRef Cert.ReferenceIdeal.main_arg1) = m (c, Proc.tc.devRef Cert.KernelIdeal.main_arg1))
    (h2 : m' (c, Proc.tc.devRef Cert.ReferenceIdeal.main_arg2) = m (c, Proc.tc.devRef Cert.KernelIdeal.main_arg2))
    (h3 : m' (c, Proc.tc.devRef Cert.ReferenceIdeal.main_arg3) = m (c, Proc.tc.devRef Cert.KernelIdeal.main_arg3))
    (h4 : m' (c, Proc.tc.devRef Cert.ReferenceIdeal.main_arg4) = m (c, Proc.tc.devRef Cert.KernelIdeal.main_arg4)) :
    (Cert.ReferenceIdeal.Value.STEP^[512] (StableHlo.entryContents Cert.ReferenceIdeal.Value.preI m' c))
        (Proc.devRef .tc Cert.ReferenceIdeal.main_v4_5)
      = Pipeline.afterTail₀ Cert.KernelIdeal.cfgs (Cert.KernelIdeal.Step.dats m) 0 (Cert.KernelIdeal.Gen.V0 m)
          [Cert.KernelIdeal.Gen.hostOps1] c Cert.KernelIdeal.main_v0 := by
  choose γ hγ using fun d => Cert.Pre_scale_nonneg.gam _ (Cert.Pre_scale_nonneg.pre_scale _ _ _ _ _ (hpre c) d)
  let U : Fin 4 → ℕ → EReal := fun d n => if h : n < 4096 then
    m (c, Proc.tc.devRef Cert.KernelIdeal.main_arg0) (ix2 (⟨n, h⟩ : Fin 4096) d) else 0
  choose u hC using fun d => (hγ d).any (U d)
  have hU : ∀ (n : Fin 4096) (d : Fin 4),
      m (c, Proc.tc.devRef Cert.KernelIdeal.main_arg0) (ix2 n d) = U d n.val := fun n d => by
    show _ = if h : n.val < 4096 then _ else _
    rw [dif_pos n.isLt]
  funext i
  obtain ⟨n, d, rfl⟩ : ∃ (n : Fin 4096) (d : Fin 4), i = ix2 n d := ⟨i 0, i 1, by funext a; fin_cases a <;> rfl⟩
  have eK := Cert.KernelIdeal.Step.result_eq m c hγ hC (fun _ => rfl) hU n d
  have eR := Cert.ReferenceIdeal.Step.result_eq (γ := γ) (u := u) m' c hγ hC
    (by unfold Cert.ReferenceIdeal.Step.argScale; rw [h1]; exact fun _ => rfl) (by rw [h0]; exact hU) n d
  rw [h2, h3, h4] at eR
  exact eR.trans eK.symm

/-- The equation, with both programs' arguments unchanged. -/
theorem algebraic [Cert.Pre_scale_nonneg.Facts] : Cert.algebraic_KernelIdeal_ReferenceIdeal_pre_scale_nonneg := by
  intro m g m' g' hpre hagree
  refine ⟨fun c => Pipeline.afterTail₀ Cert.KernelIdeal.cfgs (Cert.KernelIdeal.Step.dats m) 0 (Cert.KernelIdeal.Gen.V0 m)
      [Cert.KernelIdeal.Gen.hostOps1] c Cert.KernelIdeal.main_v0, ?_, ?_⟩
  · exact (θ_run Cert.KernelIdeal.defs _ _).mono (fun r h c => ⟨h.1 c, h.2.1 c⟩)
      (θ_run_and (Cert.KernelIdeal.Step.run_result m g) (Cert.KernelIdeal.Step.frame m g))
  · refine (θ_run Cert.ReferenceIdeal.defs _ _).mono (fun r h c => ⟨?_, (h c).2⟩) (Cert.ReferenceIdeal.Value.run m' g')
    obtain ⟨h0, h1, h2, h3, h4⟩ := hagree c
    exact (h c).1.trans (results_eq m m' hpre c h0 h1 h2 h3 h4)

end Cert.Proof
-- ==== Proof.lean ====
module

public import proofs.«01_k».proof.Defs
public import proofs.«01_k».proof.Proof.W.Run
public import proofs.«01_k».proof.Proof.K.Run
public import proofs.«01_k».proof.Proof.Gen.ReferenceIdeal.Run
public import proofs.«01_k».proof.Proof.V.Algebraic
public import Idealize.ShloMosaic.Adequacy
public import Idealize.ShloMosaic.Init

@[expose] public section

noncomputable section

namespace Cert.Proof

open Idealize.ShloMosaic Idealize.SL.Sem

/-- The kernel as printed leaves its arguments unchanged. -/
theorem frame_p : Cert.quiescent_Kernel := fun m ρ _ => Cert.Kernel.Step.frame m ρ

/-- The idealized kernel leaves its arguments unchanged. -/
theorem frame_pi : Cert.quiescent_KernelIdeal := fun m ρ _ => Cert.KernelIdeal.Step.frame m ρ

/-- The idealized reference leaves its arguments unchanged; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts, Cert.Pre_scale_nonneg.facts,
    frame_p, frame_pi, fun m ρ _ => Cert.KernelIdeal.Step.frame m ρ,
    frame_ri, fun m ρ _ => frame_ri m ρ trivial, trivial,
    haveI := Cert.Pre_scale_nonneg.facts; algebraic⟩

end Cert.Proof

end
